-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales_KernelIdeal [hPre_finite_scales_KernelIdeal : Cert.Pre_finite_scales_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales_ReferenceIdeal [hPre_finite_scales_ReferenceIdeal : Cert.Pre_finite_scales_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scales_KernelIdeal [hKernelIdeal : Cert.KernelIdeal.Facts] [hPre_finite_scales_KernelIdeal : Cert.Pre_finite_scales_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scales_ReferenceIdeal [hReferenceIdeal : Cert.ReferenceIdeal.Facts] [hPre_finite_scales_ReferenceIdeal : Cert.Pre_finite_scales_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_scales_KernelIdeal [hKernelIdeal : Cert.KernelIdeal.Facts] [hReferenceIdeal : Cert.ReferenceIdeal.Facts] [hPre_finite_scales_KernelIdeal : Cert.Pre_finite_scales_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_scales_KernelIdeal : Cert.Pre_finite_scales_KernelIdeal.Facts) (hPre_finite_scales_ReferenceIdeal : Cert.Pre_finite_scales_ReferenceIdeal.Facts),
    quiescent_Kernel (hKernel := hKernel)
    ∧ quiescent_KernelIdeal (hKernelIdeal := hKernelIdeal)
    ∧ quiescent_KernelIdeal_pre_finite_scales_KernelIdeal (hKernelIdeal := hKernelIdeal) (hPre_finite_scales_KernelIdeal := hPre_finite_scales_KernelIdeal)
    ∧ quiescent_ReferenceIdeal (hReferenceIdeal := hReferenceIdeal)
    ∧ quiescent_ReferenceIdeal_pre_finite_scales_ReferenceIdeal (hReferenceIdeal := hReferenceIdeal) (hPre_finite_scales_ReferenceIdeal := hPre_finite_scales_ReferenceIdeal)
    ∧ preserves_Kernel_KernelIdeal
    ∧ algebraic_KernelIdeal_ReferenceIdeal_pre_finite_scales_KernelIdeal (hKernelIdeal := hKernelIdeal) (hReferenceIdeal := hReferenceIdeal) (hPre_finite_scales_KernelIdeal := hPre_finite_scales_KernelIdeal)
-- ==== Pre_finite_scales_KernelIdeal.lean ====
abbrev S4096x512 : Shape := ⟨2, ![4096, 512]⟩
abbrev S512x2048 : Shape := ⟨2, ![512, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S4096x512 8) (main_arg1 : IVec S512x2048 8) (main_arg2 : FVec F S1 .f32) (main_arg3 : FVec F S1 .f32) : IVec S1 1 :=
  let main_v0 : FVec F S1 .f32 := Host.absf main_arg2
  let main_cst : FVec F S_ .f32 := constant S_ .f32 0x7F800000#32
  let main_v1 : FVec F S1 .f32 := broadcastInDim S1 ![] bcast_S_S1 main_cst
  let main_v2 : IVec S1 1 := cmpf .olt main_v0 main_v1
  let main_v3 : FVec F S1 .f32 := Host.absf main_arg3
  let main_cst_0 : FVec F S_ .f32 := constant S_ .f32 0x7F800000#32
  let main_v4 : FVec F S1 .f32 := broadcastInDim S1 ![] bcast_S_S1 main_cst_0
  let main_v5 : IVec S1 1 := cmpf .olt main_v3 main_v4
  let main_v6 : IVec S1 1 := andi main_v2 main_v5
  main_v6
-- ==== Pre_finite_scales_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S4096x4096 8) (main_arg1 : IVec S4096x2048 8) (main_arg2 : FVec F S1 .f32) (main_arg3 : FVec F S1 .f32) : IVec S1 1 :=
  let main_v0 : FVec F S1 .f32 := Host.absf main_arg2
  let main_cst : FVec F S_ .f32 := constant S_ .f32 0x7F800000#32
  let main_v1 : FVec F S1 .f32 := broadcastInDim S1 ![] bcast_S_S1 main_cst
  let main_v2 : IVec S1 1 := cmpf .olt main_v0 main_v1
  let main_v3 : FVec F S1 .f32 := Host.absf main_arg3
  let main_cst_0 : FVec F S_ .f32 := constant S_ .f32 0x7F800000#32
  let main_v4 : FVec F S1 .f32 := broadcastInDim S1 ![] bcast_S_S1 main_cst_0
  let main_v5 : IVec S1 1 := cmpf .olt main_v3 main_v4
  let main_v6 : IVec S1 1 := andi main_v2 main_v5
  main_v6
-- ==== Kernel.lean ====
abbrev S4096x512 : Shape := ⟨2, ![4096, 512]⟩
abbrev S512x2048 : Shape := ⟨2, ![512, 2048]⟩
abbrev S1 : Shape := ⟨1, ![1]⟩
abbrev S4096x2048 : Shape := ⟨2, ![4096, 2048]⟩
abbrev S704x2048 : Shape := ⟨2, ![704, 2048]⟩
abbrev S672x2048 : Shape := ⟨2, ![672, 2048]⟩
abbrev S3x3x2 : Shape := ⟨3, ![3, 3, 2]⟩
abbrev S3x3 : Shape := ⟨2, ![3, 3]⟩
abbrev S3 : Shape := ⟨1, ![3]⟩
abbrev S_ : Shape := ⟨0, ![]⟩
abbrev S704x512 : Shape := ⟨2, ![704, 512]⟩
abbrev S1x1x1 : Shape := ⟨3, ![1, 1, 1]⟩
abbrev S352x2048 : Shape := ⟨2, ![352, 2048]⟩
abbrev S672x512 : Shape := ⟨2, ![672, 512]⟩
abbrev S336x2048 : Shape := ⟨2, ![336, 2048]⟩
abbrev S176x2048 : Shape := ⟨2, ![176, 2048]⟩
abbrev S168x2048 : Shape := ⟨2, ![168, 2048]⟩
abbrev S1x1 : Shape := ⟨2, ![1, 1]⟩

abbrev nBuf : Space → Nat
  | .hbm => 5
  | .vmem => 6
  | .smem => 2
  | _ => 0

abbrev bufTy : (tb : Table) → Fin (tcTables nBuf tb) → BufTy
  | .hbm, ⟨0, _⟩ => ⟨S4096x512, .i8⟩
  | .hbm, ⟨1, _⟩ => ⟨S512x2048, .i8⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x512, .i8⟩
  | .local _ .vmem, ⟨1, _⟩ => ⟨S512x2048, .i8⟩
  | .local _ .vmem, ⟨2, _⟩ => ⟨S4096x2048, .f32⟩
  | .local _ .vmem, ⟨3, _⟩ => ⟨S704x2048, .f32⟩
  | .local _ .vmem, ⟨4, _⟩ => ⟨S672x2048, .f32⟩
  | .local _ .vmem, ⟨5, _⟩ => ⟨S672x2048, .f32⟩
  | .local _ .smem, ⟨0, _⟩ => ⟨S1, .f32⟩
  | .local _ .smem, ⟨1, _⟩ => ⟨S1, .f32⟩
  | _, _ => ⟨S4096x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 4 → Bool
  | ⟨0, _⟩ => true
  | ⟨1, _⟩ => true
  | ⟨2, _⟩ => true
  | ⟨3, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 4 59 bufScoped semScoped dmaSemScoped tileCredit tileCredit_eq_zero tileCredit_pos).withBarriers [(0, 3)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 3

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) (c0_i32_42 : BitVec 32) : Fin 2 → Nat :=
  let c0_i32_41 : BitVec 32 := 0#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let v65 : BitVec 32 := Scalar.subi c1_i32_39 v15
  let c704_i32_40 : BitVec 32 := 704#32
  let v66 : BitVec 32 := Scalar.muli v65 c704_i32_40
  let v67 : BitVec 32 := Scalar.addi c0_i32_41 v66
  let v68 : BitVec 32 := Scalar.addi v67 c0_i32_42
  let c0_i32_53 : BitVec 32 := 0#32
  ![v68.toNat, 0]
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_38 : BitVec 32 := 1#32
  let v64 : BitVec 32 := Scalar.xori v2 c1_i32_38
  let c1_i32_49 : BitVec 32 := 1#32
  let v69 : BitVec 32 := Scalar.muli v64 c1_i32_49
  let v70 : BitVec 32 := Scalar.addi c0_i32_50 v69
  v70.toNat
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_38 : BitVec 32 := 1#32
  let v64 : BitVec 32 := Scalar.xori v2 c1_i32_38
  let c1_i32_61 : BitVec 32 := 1#32
  let v78 : BitVec 32 := Scalar.muli v64 c1_i32_61
  let v79 : BitVec 32 := Scalar.addi c0_i32_62 v78
  v79.toNat
def k0_off2 (d0 : Dev nD) (c1408_i32_73 : BitVec 32) (c1_i32_16 : BitVec 32) (c0_i32_74 : BitVec 32) : Fin 2 → Nat :=
  let c1_i32_71 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v26 : BitVec 32 := Scalar.shrsi v2 c1_i32_16
  let c1_i32_17 : BitVec 32 := 1#32
  let v27 : BitVec 32 := Scalar.andi v26 c1_i32_17
  let v93 : BitVec 32 := Scalar.subi c1_i32_71 v27
  let c672_i32_72 : BitVec 32 := 672#32
  let v94 : BitVec 32 := Scalar.muli v93 c672_i32_72
  let v95 : BitVec 32 := Scalar.addi c1408_i32_73 v94
  let v96 : BitVec 32 := Scalar.addi v95 c0_i32_74
  let c0_i32_85 : BitVec 32 := 0#32
  ![v96.toNat, 0]
def k0_off2_at (r : Fin 4) : BitVec 32 × BitVec 32 × BitVec 32 :=
  if r.val < 2 then
    if r.val < 1 then
      (1408#32, 1#32, 0#32)
    else
      (1408#32, 1#32, 336#32)
  else
    if r.val < 3 then
      (2752#32, 2#32, 0#32)
    else
      (2752#32, 2#32, 336#32)
def k0_dev6 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_70 : BitVec 32 := 3#32
  let v92 : BitVec 32 := Scalar.xori v2 c3_i32_70
  let c1_i32_81 : BitVec 32 := 1#32
  let v97 : BitVec 32 := Scalar.muli v92 c1_i32_81
  let v98 : BitVec 32 := Scalar.addi c0_i32_82 v97
  v98.toNat
def k0_dev7 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_70 : BitVec 32 := 3#32
  let v92 : BitVec 32 := Scalar.xori v2 c3_i32_70
  let c1_i32_93 : BitVec 32 := 1#32
  let v106 : BitVec 32 := Scalar.muli v92 c1_i32_93
  let v107 : BitVec 32 := Scalar.addi c0_i32_94 v106
  v107.toNat
def k0_dev8 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_102 : BitVec 32 := 4#32
  let v120 : BitVec 32 := Scalar.xori v2 c4_i32_102
  let c1_i32_113 : BitVec 32 := 1#32
  let v125 : BitVec 32 := Scalar.muli v120 c1_i32_113
  let v126 : BitVec 32 := Scalar.addi c0_i32_114 v125
  v126.toNat
def k0_dev9 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_102 : BitVec 32 := 4#32
  let v120 : BitVec 32 := Scalar.xori v2 c4_i32_102
  let c1_i32_125 : BitVec 32 := 1#32
  let v134 : BitVec 32 := Scalar.muli v120 c1_i32_125
  let v135 : BitVec 32 := Scalar.addi c0_i32_126 v134
  v135.toNat
def k0_off3 (d0 : Dev nD) (c0_i32_153 : BitVec 32) : Fin 2 → Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c704_i32 : BitVec 32 := 704#32
  let v16 : BitVec 32 := Scalar.muli v15 c704_i32
  let v17 : BitVec 32 := Scalar.addi c0_i32_12 v16
  let v166 : BitVec 32 := Scalar.addi v17 c0_i32_153
  let v167 : Index := Scalar.indexCast v166
  let c0_154 : Index := 0#32
  ![v167.toNat, 0]
def k0_off4 (d0 : Dev nD) (c1408_i32 : BitVec 32) (c1_i32_16 : BitVec 32) (c0_i32_169 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v26 : BitVec 32 := Scalar.shrsi v2 c1_i32_16
  let c1_i32_17 : BitVec 32 := 1#32
  let v27 : BitVec 32 := Scalar.andi v26 c1_i32_17
  let c672_i32 : BitVec 32 := 672#32
  let v28 : BitVec 32 := Scalar.muli v27 c672_i32
  let v29 : BitVec 32 := Scalar.addi c1408_i32 v28
  let v180 : BitVec 32 := Scalar.addi v29 c0_i32_169
  let v181 : Index := Scalar.indexCast v180
  let c0_170 : Index := 0#32
  ![v181.toNat, 0]
def k0_off4_at (r : Fin 4) : BitVec 32 × BitVec 32 × BitVec 32 :=
  if r.val < 2 then
    if r.val < 1 then
      (1408#32, 1#32, 0#32)
    else
      (2752#32, 2#32, 0#32)
  else
    if r.val < 3 then
      (1408#32, 1#32, 336#32)
    else
      (2752#32, 2#32, 336#32)
def k0_dev10 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_256 : BitVec 32 := 3#32
  let v252 : BitVec 32 := Scalar.xori v2 c3_i32_256
  let c1_i32_259 : BitVec 32 := 1#32
  let v255 : BitVec 32 := Scalar.muli v252 c1_i32_259
  let v256 : BitVec 32 := Scalar.addi c0_i32_260 v255
  v256.toNat
def k0_dev11 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_281 : BitVec 32 := 4#32
  let v265 : BitVec 32 := Scalar.xori v2 c4_i32_281
  let c1_i32_284 : BitVec 32 := 1#32
  let v268 : BitVec 32 := Scalar.muli v265 c1_i32_284
  let v269 : BitVec 32 := Scalar.addi c0_i32_285 v268
  v269.toNat
def k0_dev12 (d0 : Dev nD) : Nat :=
  let c0_i32_310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_306 : BitVec 32 := 1#32
  let v278 : BitVec 32 := Scalar.xori v2 c1_i32_306
  let c1_i32_309 : BitVec 32 := 1#32
  let v281 : BitVec 32 := Scalar.muli v278 c1_i32_309
  let v282 : BitVec 32 := Scalar.addi c0_i32_310 v281
  v282.toNat
def k0_off5 (d0 : Dev nD) (c0_i32_317 : BitVec 32) : Fin 2 → Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c704_i32 : BitVec 32 := 704#32
  let v16 : BitVec 32 := Scalar.muli v15 c704_i32
  let v17 : BitVec 32 := Scalar.addi c0_i32_12 v16
  let c1_i32_315 : BitVec 32 := 1#32
  let c1_i32_13 : BitVec 32 := 1#32
  let v18 : BitVec 32 := Scalar.shrsi v2 c1_i32_13
  let c1_i32_14 : BitVec 32 := 1#32
  let v19 : BitVec 32 := Scalar.andi v18 c1_i32_14
  let v286 : BitVec 32 := Scalar.subi c1_i32_315 v19
  let c352_i32_316 : BitVec 32 := 352#32
  let v287 : BitVec 32 := Scalar.muli v286 c352_i32_316
  let v288 : BitVec 32 := Scalar.addi v17 v287
  let v289 : BitVec 32 := Scalar.addi v288 c0_i32_317
  let c0_i32_328 : BitVec 32 := 0#32
  ![v289.toNat, 0]
def k0_dev13 (d0 : Dev nD) : Nat :=
  let c0_i32_325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_314 : BitVec 32 := 3#32
  let v285 : BitVec 32 := Scalar.xori v2 c3_i32_314
  let c1_i32_324 : BitVec 32 := 1#32
  let v290 : BitVec 32 := Scalar.muli v285 c1_i32_324
  let v291 : BitVec 32 := Scalar.addi c0_i32_325 v290
  v291.toNat
def k0_dev14 (d0 : Dev nD) : Nat :=
  let c0_i32_337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_314 : BitVec 32 := 3#32
  let v285 : BitVec 32 := Scalar.xori v2 c3_i32_314
  let c1_i32_336 : BitVec 32 := 1#32
  let v299 : BitVec 32 := Scalar.muli v285 c1_i32_336
  let v300 : BitVec 32 := Scalar.addi c0_i32_337 v299
  v300.toNat
def k0_off6 (d0 : Dev nD) (c0_i32_347 : BitVec 32) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v26 : BitVec 32 := Scalar.shrsi v2 c1_i32_16
  let c1_i32_17 : BitVec 32 := 1#32
  let v27 : BitVec 32 := Scalar.andi v26 c1_i32_17
  let c672_i32 : BitVec 32 := 672#32
  let v28 : BitVec 32 := Scalar.muli v27 c672_i32
  let v29 : BitVec 32 := Scalar.addi c1408_i32 v28
  let c1_i32_345 : BitVec 32 := 1#32
  let c2_i32_18 : BitVec 32 := 2#32
  let v30 : BitVec 32 := Scalar.shrsi v2 c2_i32_18
  let c1_i32_19 : BitVec 32 := 1#32
  let v31 : BitVec 32 := Scalar.andi v30 c1_i32_19
  let v310 : BitVec 32 := Scalar.subi c1_i32_345 v31
  let c336_i32_346 : BitVec 32 := 336#32
  let v311 : BitVec 32 := Scalar.muli v310 c336_i32_346
  let v312 : BitVec 32 := Scalar.addi v29 v311
  let v313 : BitVec 32 := Scalar.addi v312 c0_i32_347
  let c0_i32_358 : BitVec 32 := 0#32
  ![v313.toNat, 0]
def k0_dev15 (d0 : Dev nD) : Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_344 : BitVec 32 := 4#32
  let v309 : BitVec 32 := Scalar.xori v2 c4_i32_344
  let c1_i32_354 : BitVec 32 := 1#32
  let v314 : BitVec 32 := Scalar.muli v309 c1_i32_354
  let v315 : BitVec 32 := Scalar.addi c0_i32_355 v314
  v315.toNat
def k0_dev16 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_344 : BitVec 32 := 4#32
  let v309 : BitVec 32 := Scalar.xori v2 c4_i32_344
  let c1_i32_366 : BitVec 32 := 1#32
  let v323 : BitVec 32 := Scalar.muli v309 c1_i32_366
  let v324 : BitVec 32 := Scalar.addi c0_i32_367 v323
  v324.toNat
def k0_off7 (d0 : Dev nD) (c0_i32_377 : BitVec 32) : Fin 2 → Nat :=
  let c2752_i32 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_22 : BitVec 32 := 2#32
  let v39 : BitVec 32 := Scalar.shrsi v2 c2_i32_22
  let c1_i32_23 : BitVec 32 := 1#32
  let v40 : BitVec 32 := Scalar.andi v39 c1_i32_23
  let c672_i32_24 : BitVec 32 := 672#32
  let v41 : BitVec 32 := Scalar.muli v40 c672_i32_24
  let v42 : BitVec 32 := Scalar.addi c2752_i32 v41
  let c1_i32_375 : BitVec 32 := 1#32
  let c1_i32_25 : BitVec 32 := 1#32
  let v43 : BitVec 32 := Scalar.shrsi v2 c1_i32_25
  let v44 : BitVec 32 := Scalar.xori v2 v43
  let c1_i32_26 : BitVec 32 := 1#32
  let v45 : BitVec 32 := Scalar.andi v44 c1_i32_26
  let v334 : BitVec 32 := Scalar.subi c1_i32_375 v45
  let c336_i32_376 : BitVec 32 := 336#32
  let v335 : BitVec 32 := Scalar.muli v334 c336_i32_376
  let v336 : BitVec 32 := Scalar.addi v42 v335
  let v337 : BitVec 32 := Scalar.addi v336 c0_i32_377
  let c0_i32_388 : BitVec 32 := 0#32
  ![v337.toNat, 0]
def k0_dev17 (d0 : Dev nD) : Nat :=
  let c0_i32_385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_374 : BitVec 32 := 1#32
  let v333 : BitVec 32 := Scalar.xori v2 c1_i32_374
  let c1_i32_384 : BitVec 32 := 1#32
  let v338 : BitVec 32 := Scalar.muli v333 c1_i32_384
  let v339 : BitVec 32 := Scalar.addi c0_i32_385 v338
  v339.toNat
def k0_dev18 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_374 : BitVec 32 := 1#32
  let v333 : BitVec 32 := Scalar.xori v2 c1_i32_374
  let c1_i32_396 : BitVec 32 := 1#32
  let v347 : BitVec 32 := Scalar.muli v333 c1_i32_396
  let v348 : BitVec 32 := Scalar.addi c0_i32_397 v347
  v348.toNat
def k0_off8 (d0 : Dev nD) (c0_i32_412 : BitVec 32) : Fin 2 → Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c704_i32 : BitVec 32 := 704#32
  let v16 : BitVec 32 := Scalar.muli v15 c704_i32
  let v17 : BitVec 32 := Scalar.addi c0_i32_12 v16
  let c1_i32_13 : BitVec 32 := 1#32
  let v18 : BitVec 32 := Scalar.shrsi v2 c1_i32_13
  let c1_i32_14 : BitVec 32 := 1#32
  let v19 : BitVec 32 := Scalar.andi v18 c1_i32_14
  let c352_i32 : BitVec 32 := 352#32
  let v20 : BitVec 32 := Scalar.muli v19 c352_i32
  let v21 : BitVec 32 := Scalar.addi v17 v20
  let v361 : BitVec 32 := Scalar.addi v21 c0_i32_412
  let v362 : Index := Scalar.indexCast v361
  let c0_413 : Index := 0#32
  ![v362.toNat, 0]
def k0_off9 (d0 : Dev nD) (c0_i32_428 : BitVec 32) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v26 : BitVec 32 := Scalar.shrsi v2 c1_i32_16
  let c1_i32_17 : BitVec 32 := 1#32
  let v27 : BitVec 32 := Scalar.andi v26 c1_i32_17
  let c672_i32 : BitVec 32 := 672#32
  let v28 : BitVec 32 := Scalar.muli v27 c672_i32
  let v29 : BitVec 32 := Scalar.addi c1408_i32 v28
  let c2_i32_18 : BitVec 32 := 2#32
  let v30 : BitVec 32 := Scalar.shrsi v2 c2_i32_18
  let c1_i32_19 : BitVec 32 := 1#32
  let v31 : BitVec 32 := Scalar.andi v30 c1_i32_19
  let c336_i32 : BitVec 32 := 336#32
  let v32 : BitVec 32 := Scalar.muli v31 c336_i32
  let v33 : BitVec 32 := Scalar.addi v29 v32
  let v375 : BitVec 32 := Scalar.addi v33 c0_i32_428
  let v376 : Index := Scalar.indexCast v375
  let c0_429 : Index := 0#32
  ![v376.toNat, 0]
def k0_off10 (d0 : Dev nD) (c0_i32_444 : BitVec 32) : Fin 2 → Nat :=
  let c2752_i32 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_22 : BitVec 32 := 2#32
  let v39 : BitVec 32 := Scalar.shrsi v2 c2_i32_22
  let c1_i32_23 : BitVec 32 := 1#32
  let v40 : BitVec 32 := Scalar.andi v39 c1_i32_23
  let c672_i32_24 : BitVec 32 := 672#32
  let v41 : BitVec 32 := Scalar.muli v40 c672_i32_24
  let v42 : BitVec 32 := Scalar.addi c2752_i32 v41
  let c1_i32_25 : BitVec 32 := 1#32
  let v43 : BitVec 32 := Scalar.shrsi v2 c1_i32_25
  let v44 : BitVec 32 := Scalar.xori v2 v43
  let c1_i32_26 : BitVec 32 := 1#32
  let v45 : BitVec 32 := Scalar.andi v44 c1_i32_26
  let c336_i32_27 : BitVec 32 := 336#32
  let v46 : BitVec 32 := Scalar.muli v45 c336_i32_27
  let v47 : BitVec 32 := Scalar.addi v42 v46
  let v389 : BitVec 32 := Scalar.addi v47 c0_i32_444
  let v390 : Index := Scalar.indexCast v389
  let c0_445 : Index := 0#32
  ![v390.toNat, 0]
def k0_dev19 (d0 : Dev nD) : Nat :=
  let c0_i32_519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_515 : BitVec 32 := 4#32
  let v447 : BitVec 32 := Scalar.xori v2 c4_i32_515
  let c1_i32_518 : BitVec 32 := 1#32
  let v450 : BitVec 32 := Scalar.muli v447 c1_i32_518
  let v451 : BitVec 32 := Scalar.addi c0_i32_519 v450
  v451.toNat
def k0_dev20 (d0 : Dev nD) : Nat :=
  let c0_i32_544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_540 : BitVec 32 := 1#32
  let v460 : BitVec 32 := Scalar.xori v2 c1_i32_540
  let c1_i32_543 : BitVec 32 := 1#32
  let v463 : BitVec 32 := Scalar.muli v460 c1_i32_543
  let v464 : BitVec 32 := Scalar.addi c0_i32_544 v463
  v464.toNat
def k0_dev21 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_565 : BitVec 32 := 3#32
  let v473 : BitVec 32 := Scalar.xori v2 c3_i32_565
  let c1_i32_568 : BitVec 32 := 1#32
  let v476 : BitVec 32 := Scalar.muli v473 c1_i32_568
  let v477 : BitVec 32 := Scalar.addi c0_i32_569 v476
  v477.toNat
def k0_off11 (d0 : Dev nD) : Fin 2 → Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c704_i32 : BitVec 32 := 704#32
  let v16 : BitVec 32 := Scalar.muli v15 c704_i32
  let v17 : BitVec 32 := Scalar.addi c0_i32_12 v16
  let c1_i32_13 : BitVec 32 := 1#32
  let v18 : BitVec 32 := Scalar.shrsi v2 c1_i32_13
  let c1_i32_14 : BitVec 32 := 1#32
  let v19 : BitVec 32 := Scalar.andi v18 c1_i32_14
  let c352_i32 : BitVec 32 := 352#32
  let v20 : BitVec 32 := Scalar.muli v19 c352_i32
  let v21 : BitVec 32 := Scalar.addi v17 v20
  let c1_i32_574 : BitVec 32 := 1#32
  let c2_i32 : BitVec 32 := 2#32
  let v22 : BitVec 32 := Scalar.shrsi v2 c2_i32
  let c1_i32_15 : BitVec 32 := 1#32
  let v23 : BitVec 32 := Scalar.andi v22 c1_i32_15
  let v481 : BitVec 32 := Scalar.subi c1_i32_574 v23
  let c176_i32_575 : BitVec 32 := 176#32
  let v482 : BitVec 32 := Scalar.muli v481 c176_i32_575
  let v483 : BitVec 32 := Scalar.addi v21 v482
  let c0_i32_576 : BitVec 32 := 0#32
  let v484 : BitVec 32 := Scalar.addi v483 c0_i32_576
  let c0_i32_587 : BitVec 32 := 0#32
  ![v484.toNat, 0]
def k0_dev22 (d0 : Dev nD) : Nat :=
  let c0_i32_584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_573 : BitVec 32 := 4#32
  let v480 : BitVec 32 := Scalar.xori v2 c4_i32_573
  let c1_i32_583 : BitVec 32 := 1#32
  let v485 : BitVec 32 := Scalar.muli v480 c1_i32_583
  let v486 : BitVec 32 := Scalar.addi c0_i32_584 v485
  v486.toNat
def k0_off12 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v26 : BitVec 32 := Scalar.shrsi v2 c1_i32_16
  let c1_i32_17 : BitVec 32 := 1#32
  let v27 : BitVec 32 := Scalar.andi v26 c1_i32_17
  let c672_i32 : BitVec 32 := 672#32
  let v28 : BitVec 32 := Scalar.muli v27 c672_i32
  let v29 : BitVec 32 := Scalar.addi c1408_i32 v28
  let c2_i32_18 : BitVec 32 := 2#32
  let v30 : BitVec 32 := Scalar.shrsi v2 c2_i32_18
  let c1_i32_19 : BitVec 32 := 1#32
  let v31 : BitVec 32 := Scalar.andi v30 c1_i32_19
  let c336_i32 : BitVec 32 := 336#32
  let v32 : BitVec 32 := Scalar.muli v31 c336_i32
  let v33 : BitVec 32 := Scalar.addi v29 v32
  let c1_i32_592 : BitVec 32 := 1#32
  let c1_i32_20 : BitVec 32 := 1#32
  let v34 : BitVec 32 := Scalar.shrsi v2 c1_i32_20
  let v35 : BitVec 32 := Scalar.xori v2 v34
  let c1_i32_21 : BitVec 32 := 1#32
  let v36 : BitVec 32 := Scalar.andi v35 c1_i32_21
  let v496 : BitVec 32 := Scalar.subi c1_i32_592 v36
  let c168_i32_593 : BitVec 32 := 168#32
  let v497 : BitVec 32 := Scalar.muli v496 c168_i32_593
  let v498 : BitVec 32 := Scalar.addi v33 v497
  let c0_i32_594 : BitVec 32 := 0#32
  let v499 : BitVec 32 := Scalar.addi v498 c0_i32_594
  let c0_i32_605 : BitVec 32 := 0#32
  ![v499.toNat, 0]
def k0_dev23 (d0 : Dev nD) : Nat :=
  let c0_i32_602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_591 : BitVec 32 := 1#32
  let v495 : BitVec 32 := Scalar.xori v2 c1_i32_591
  let c1_i32_601 : BitVec 32 := 1#32
  let v500 : BitVec 32 := Scalar.muli v495 c1_i32_601
  let v501 : BitVec 32 := Scalar.addi c0_i32_602 v500
  v501.toNat
def k0_off13 (d0 : Dev nD) : Fin 2 → Nat :=
  let c2752_i32 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_22 : BitVec 32 := 2#32
  let v39 : BitVec 32 := Scalar.shrsi v2 c2_i32_22
  let c1_i32_23 : BitVec 32 := 1#32
  let v40 : BitVec 32 := Scalar.andi v39 c1_i32_23
  let c672_i32_24 : BitVec 32 := 672#32
  let v41 : BitVec 32 := Scalar.muli v40 c672_i32_24
  let v42 : BitVec 32 := Scalar.addi c2752_i32 v41
  let c1_i32_25 : BitVec 32 := 1#32
  let v43 : BitVec 32 := Scalar.shrsi v2 c1_i32_25
  let v44 : BitVec 32 := Scalar.xori v2 v43
  let c1_i32_26 : BitVec 32 := 1#32
  let v45 : BitVec 32 := Scalar.andi v44 c1_i32_26
  let c336_i32_27 : BitVec 32 := 336#32
  let v46 : BitVec 32 := Scalar.muli v45 c336_i32_27
  let v47 : BitVec 32 := Scalar.addi v42 v46
  let c1_i32_610 : BitVec 32 := 1#32
  let c1_i32_28 : BitVec 32 := 1#32
  let v48 : BitVec 32 := Scalar.shrsi v2 c1_i32_28
  let c1_i32_29 : BitVec 32 := 1#32
  let v49 : BitVec 32 := Scalar.andi v48 c1_i32_29
  let v511 : BitVec 32 := Scalar.subi c1_i32_610 v49
  let c168_i32_611 : BitVec 32 := 168#32
  let v512 : BitVec 32 := Scalar.muli v511 c168_i32_611
  let v513 : BitVec 32 := Scalar.addi v47 v512
  let c0_i32_612 : BitVec 32 := 0#32
  let v514 : BitVec 32 := Scalar.addi v513 c0_i32_612
  let c0_i32_623 : BitVec 32 := 0#32
  ![v514.toNat, 0]
def k0_dev24 (d0 : Dev nD) : Nat :=
  let c0_i32_620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_609 : BitVec 32 := 3#32
  let v510 : BitVec 32 := Scalar.xori v2 c3_i32_609
  let c1_i32_619 : BitVec 32 := 1#32
  let v515 : BitVec 32 := Scalar.muli v510 c1_i32_619
  let v516 : BitVec 32 := Scalar.addi c0_i32_620 v515
  v516.toNat
def k0_off14 (d0 : Dev nD) : Fin 2 → Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c704_i32 : BitVec 32 := 704#32
  let v16 : BitVec 32 := Scalar.muli v15 c704_i32
  let v17 : BitVec 32 := Scalar.addi c0_i32_12 v16
  let c1_i32_13 : BitVec 32 := 1#32
  let v18 : BitVec 32 := Scalar.shrsi v2 c1_i32_13
  let c1_i32_14 : BitVec 32 := 1#32
  let v19 : BitVec 32 := Scalar.andi v18 c1_i32_14
  let c352_i32 : BitVec 32 := 352#32
  let v20 : BitVec 32 := Scalar.muli v19 c352_i32
  let v21 : BitVec 32 := Scalar.addi v17 v20
  let c2_i32 : BitVec 32 := 2#32
  let v22 : BitVec 32 := Scalar.shrsi v2 c2_i32
  let c1_i32_15 : BitVec 32 := 1#32
  let v23 : BitVec 32 := Scalar.andi v22 c1_i32_15
  let c176_i32 : BitVec 32 := 176#32
  let v24 : BitVec 32 := Scalar.muli v23 c176_i32
  let v25 : BitVec 32 := Scalar.addi v21 v24
  let c0_i32_635 : BitVec 32 := 0#32
  let v529 : BitVec 32 := Scalar.addi v25 c0_i32_635
  let v530 : Index := Scalar.indexCast v529
  let c0_636 : Index := 0#32
  ![v530.toNat, 0]
def k0_off15 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v26 : BitVec 32 := Scalar.shrsi v2 c1_i32_16
  let c1_i32_17 : BitVec 32 := 1#32
  let v27 : BitVec 32 := Scalar.andi v26 c1_i32_17
  let c672_i32 : BitVec 32 := 672#32
  let v28 : BitVec 32 := Scalar.muli v27 c672_i32
  let v29 : BitVec 32 := Scalar.addi c1408_i32 v28
  let c2_i32_18 : BitVec 32 := 2#32
  let v30 : BitVec 32 := Scalar.shrsi v2 c2_i32_18
  let c1_i32_19 : BitVec 32 := 1#32
  let v31 : BitVec 32 := Scalar.andi v30 c1_i32_19
  let c336_i32 : BitVec 32 := 336#32
  let v32 : BitVec 32 := Scalar.muli v31 c336_i32
  let v33 : BitVec 32 := Scalar.addi v29 v32
  let c1_i32_20 : BitVec 32 := 1#32
  let v34 : BitVec 32 := Scalar.shrsi v2 c1_i32_20
  let v35 : BitVec 32 := Scalar.xori v2 v34
  let c1_i32_21 : BitVec 32 := 1#32
  let v36 : BitVec 32 := Scalar.andi v35 c1_i32_21
  let c168_i32 : BitVec 32 := 168#32
  let v37 : BitVec 32 := Scalar.muli v36 c168_i32
  let v38 : BitVec 32 := Scalar.addi v33 v37
  let c0_i32_651 : BitVec 32 := 0#32
  let v543 : BitVec 32 := Scalar.addi v38 c0_i32_651
  let v544 : Index := Scalar.indexCast v543
  let c0_652 : Index := 0#32
  ![v544.toNat, 0]
def k0_off16 (d0 : Dev nD) : Fin 2 → Nat :=
  let c2752_i32 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_22 : BitVec 32 := 2#32
  let v39 : BitVec 32 := Scalar.shrsi v2 c2_i32_22
  let c1_i32_23 : BitVec 32 := 1#32
  let v40 : BitVec 32 := Scalar.andi v39 c1_i32_23
  let c672_i32_24 : BitVec 32 := 672#32
  let v41 : BitVec 32 := Scalar.muli v40 c672_i32_24
  let v42 : BitVec 32 := Scalar.addi c2752_i32 v41
  let c1_i32_25 : BitVec 32 := 1#32
  let v43 : BitVec 32 := Scalar.shrsi v2 c1_i32_25
  let v44 : BitVec 32 := Scalar.xori v2 v43
  let c1_i32_26 : BitVec 32 := 1#32
  let v45 : BitVec 32 := Scalar.andi v44 c1_i32_26
  let c336_i32_27 : BitVec 32 := 336#32
  let v46 : BitVec 32 := Scalar.muli v45 c336_i32_27
  let v47 : BitVec 32 := Scalar.addi v42 v46
  let c1_i32_28 : BitVec 32 := 1#32
  let v48 : BitVec 32 := Scalar.shrsi v2 c1_i32_28
  let c1_i32_29 : BitVec 32 := 1#32
  let v49 : BitVec 32 := Scalar.andi v48 c1_i32_29
  let c168_i32_30 : BitVec 32 := 168#32
  let v50 : BitVec 32 := Scalar.muli v49 c168_i32_30
  let v51 : BitVec 32 := Scalar.addi v47 v50
  let c0_i32_667 : BitVec 32 := 0#32
  let v557 : BitVec 32 := Scalar.addi v51 c0_i32_667
  let v558 : Index := Scalar.indexCast v557
  let c0_668 : Index := 0#32
  ![v558.toNat, 0]
def k0_off17 (d0 : Dev nD) : Fin 2 → Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c704_i32 : BitVec 32 := 704#32
  let v16 : BitVec 32 := Scalar.muli v15 c704_i32
  let v17 : BitVec 32 := Scalar.addi c0_i32_12 v16
  let c1_i32_13 : BitVec 32 := 1#32
  let v18 : BitVec 32 := Scalar.shrsi v2 c1_i32_13
  let c1_i32_14 : BitVec 32 := 1#32
  let v19 : BitVec 32 := Scalar.andi v18 c1_i32_14
  let c352_i32 : BitVec 32 := 352#32
  let v20 : BitVec 32 := Scalar.muli v19 c352_i32
  let v21 : BitVec 32 := Scalar.addi v17 v20
  let c2_i32 : BitVec 32 := 2#32
  let v22 : BitVec 32 := Scalar.shrsi v2 c2_i32
  let c1_i32_15 : BitVec 32 := 1#32
  let v23 : BitVec 32 := Scalar.andi v22 c1_i32_15
  let c176_i32 : BitVec 32 := 176#32
  let v24 : BitVec 32 := Scalar.muli v23 c176_i32
  let v25 : BitVec 32 := Scalar.addi v21 v24
  let c0_i32_709 : BitVec 32 := 0#32
  ![v25.toNat, 0]
def k0_dev25 (d0 : Dev nD) : Nat :=
  let c0_i32_708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_702 : BitVec 32 := 4#32
  let v577 : BitVec 32 := Scalar.xori v2 c4_i32_702
  let c1_i32_707 : BitVec 32 := 1#32
  let v578 : BitVec 32 := Scalar.muli v577 c1_i32_707
  let v579 : BitVec 32 := Scalar.addi c0_i32_708 v578
  v579.toNat
def k0_off18 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v26 : BitVec 32 := Scalar.shrsi v2 c1_i32_16
  let c1_i32_17 : BitVec 32 := 1#32
  let v27 : BitVec 32 := Scalar.andi v26 c1_i32_17
  let c672_i32 : BitVec 32 := 672#32
  let v28 : BitVec 32 := Scalar.muli v27 c672_i32
  let v29 : BitVec 32 := Scalar.addi c1408_i32 v28
  let c2_i32_18 : BitVec 32 := 2#32
  let v30 : BitVec 32 := Scalar.shrsi v2 c2_i32_18
  let c1_i32_19 : BitVec 32 := 1#32
  let v31 : BitVec 32 := Scalar.andi v30 c1_i32_19
  let c336_i32 : BitVec 32 := 336#32
  let v32 : BitVec 32 := Scalar.muli v31 c336_i32
  let v33 : BitVec 32 := Scalar.addi v29 v32
  let c1_i32_20 : BitVec 32 := 1#32
  let v34 : BitVec 32 := Scalar.shrsi v2 c1_i32_20
  let v35 : BitVec 32 := Scalar.xori v2 v34
  let c1_i32_21 : BitVec 32 := 1#32
  let v36 : BitVec 32 := Scalar.andi v35 c1_i32_21
  let c168_i32 : BitVec 32 := 168#32
  let v37 : BitVec 32 := Scalar.muli v36 c168_i32
  let v38 : BitVec 32 := Scalar.addi v33 v37
  let c0_i32_718 : BitVec 32 := 0#32
  ![v38.toNat, 0]
def k0_dev26 (d0 : Dev nD) : Nat :=
  let c0_i32_717 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_711 : BitVec 32 := 1#32
  let v586 : BitVec 32 := Scalar.xori v2 c1_i32_711
  let c1_i32_716 : BitVec 32 := 1#32
  let v587 : BitVec 32 := Scalar.muli v586 c1_i32_716
  let v588 : BitVec 32 := Scalar.addi c0_i32_717 v587
  v588.toNat
def k0_off19 (d0 : Dev nD) : Fin 2 → Nat :=
  let c2752_i32 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_22 : BitVec 32 := 2#32
  let v39 : BitVec 32 := Scalar.shrsi v2 c2_i32_22
  let c1_i32_23 : BitVec 32 := 1#32
  let v40 : BitVec 32 := Scalar.andi v39 c1_i32_23
  let c672_i32_24 : BitVec 32 := 672#32
  let v41 : BitVec 32 := Scalar.muli v40 c672_i32_24
  let v42 : BitVec 32 := Scalar.addi c2752_i32 v41
  let c1_i32_25 : BitVec 32 := 1#32
  let v43 : BitVec 32 := Scalar.shrsi v2 c1_i32_25
  let v44 : BitVec 32 := Scalar.xori v2 v43
  let c1_i32_26 : BitVec 32 := 1#32
  let v45 : BitVec 32 := Scalar.andi v44 c1_i32_26
  let c336_i32_27 : BitVec 32 := 336#32
  let v46 : BitVec 32 := Scalar.muli v45 c336_i32_27
  let v47 : BitVec 32 := Scalar.addi v42 v46
  let c1_i32_28 : BitVec 32 := 1#32
  let v48 : BitVec 32 := Scalar.shrsi v2 c1_i32_28
  let c1_i32_29 : BitVec 32 := 1#32
  let v49 : BitVec 32 := Scalar.andi v48 c1_i32_29
  let c168_i32_30 : BitVec 32 := 168#32
  let v50 : BitVec 32 := Scalar.muli v49 c168_i32_30
  let v51 : BitVec 32 := Scalar.addi v47 v50
  let c0_i32_727 : BitVec 32 := 0#32
  ![v51.toNat, 0]
def k0_dev27 (d0 : Dev nD) : Nat :=
  let c0_i32_726 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_720 : BitVec 32 := 3#32
  let v595 : BitVec 32 := Scalar.xori v2 c3_i32_720
  let c1_i32_725 : BitVec 32 := 1#32
  let v596 : BitVec 32 := Scalar.muli v595 c1_i32_725
  let v597 : BitVec 32 := Scalar.addi c0_i32_726 v596
  v597.toNat
def k0_off20 (d0 : Dev nD) : Fin 2 → Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c704_i32 : BitVec 32 := 704#32
  let v16 : BitVec 32 := Scalar.muli v15 c704_i32
  let v17 : BitVec 32 := Scalar.addi c0_i32_12 v16
  let c1_i32_13 : BitVec 32 := 1#32
  let v18 : BitVec 32 := Scalar.shrsi v2 c1_i32_13
  let c1_i32_14 : BitVec 32 := 1#32
  let v19 : BitVec 32 := Scalar.andi v18 c1_i32_14
  let c352_i32 : BitVec 32 := 352#32
  let v20 : BitVec 32 := Scalar.muli v19 c352_i32
  let v21 : BitVec 32 := Scalar.addi v17 v20
  let c0_i32_781 : BitVec 32 := 0#32
  ![v21.toNat, 0]
def k0_dev28 (d0 : Dev nD) : Nat :=
  let c0_i32_780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_774 : BitVec 32 := 3#32
  let v634 : BitVec 32 := Scalar.xori v2 c3_i32_774
  let c1_i32_779 : BitVec 32 := 1#32
  let v635 : BitVec 32 := Scalar.muli v634 c1_i32_779
  let v636 : BitVec 32 := Scalar.addi c0_i32_780 v635
  v636.toNat
def k0_off21 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v26 : BitVec 32 := Scalar.shrsi v2 c1_i32_16
  let c1_i32_17 : BitVec 32 := 1#32
  let v27 : BitVec 32 := Scalar.andi v26 c1_i32_17
  let c672_i32 : BitVec 32 := 672#32
  let v28 : BitVec 32 := Scalar.muli v27 c672_i32
  let v29 : BitVec 32 := Scalar.addi c1408_i32 v28
  let c2_i32_18 : BitVec 32 := 2#32
  let v30 : BitVec 32 := Scalar.shrsi v2 c2_i32_18
  let c1_i32_19 : BitVec 32 := 1#32
  let v31 : BitVec 32 := Scalar.andi v30 c1_i32_19
  let c336_i32 : BitVec 32 := 336#32
  let v32 : BitVec 32 := Scalar.muli v31 c336_i32
  let v33 : BitVec 32 := Scalar.addi v29 v32
  let c0_i32_790 : BitVec 32 := 0#32
  ![v33.toNat, 0]
def k0_dev29 (d0 : Dev nD) : Nat :=
  let c0_i32_789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_783 : BitVec 32 := 4#32
  let v643 : BitVec 32 := Scalar.xori v2 c4_i32_783
  let c1_i32_788 : BitVec 32 := 1#32
  let v644 : BitVec 32 := Scalar.muli v643 c1_i32_788
  let v645 : BitVec 32 := Scalar.addi c0_i32_789 v644
  v645.toNat
def k0_off22 (d0 : Dev nD) : Fin 2 → Nat :=
  let c2752_i32 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_22 : BitVec 32 := 2#32
  let v39 : BitVec 32 := Scalar.shrsi v2 c2_i32_22
  let c1_i32_23 : BitVec 32 := 1#32
  let v40 : BitVec 32 := Scalar.andi v39 c1_i32_23
  let c672_i32_24 : BitVec 32 := 672#32
  let v41 : BitVec 32 := Scalar.muli v40 c672_i32_24
  let v42 : BitVec 32 := Scalar.addi c2752_i32 v41
  let c1_i32_25 : BitVec 32 := 1#32
  let v43 : BitVec 32 := Scalar.shrsi v2 c1_i32_25
  let v44 : BitVec 32 := Scalar.xori v2 v43
  let c1_i32_26 : BitVec 32 := 1#32
  let v45 : BitVec 32 := Scalar.andi v44 c1_i32_26
  let c336_i32_27 : BitVec 32 := 336#32
  let v46 : BitVec 32 := Scalar.muli v45 c336_i32_27
  let v47 : BitVec 32 := Scalar.addi v42 v46
  let c0_i32_799 : BitVec 32 := 0#32
  ![v47.toNat, 0]
def k0_dev30 (d0 : Dev nD) : Nat :=
  let c0_i32_798 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_792 : BitVec 32 := 1#32
  let v652 : BitVec 32 := Scalar.xori v2 c1_i32_792
  let c1_i32_797 : BitVec 32 := 1#32
  let v653 : BitVec 32 := Scalar.muli v652 c1_i32_797
  let v654 : BitVec 32 := Scalar.addi c0_i32_798 v653
  v654.toNat
def k0_off23 (d0 : Dev nD) : Fin 2 → Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.shrsi v2 c1_i32_10
  let v14 : BitVec 32 := Scalar.xori v2 v13
  let c1_i32_11 : BitVec 32 := 1#32
  let v15 : BitVec 32 := Scalar.andi v14 c1_i32_11
  let c704_i32 : BitVec 32 := 704#32
  let v16 : BitVec 32 := Scalar.muli v15 c704_i32
  let v17 : BitVec 32 := Scalar.addi c0_i32_12 v16
  let c0_i32_853 : BitVec 32 := 0#32
  ![v17.toNat, 0]
def k0_dev31 (d0 : Dev nD) : Nat :=
  let c0_i32_852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_846 : BitVec 32 := 1#32
  let v691 : BitVec 32 := Scalar.xori v2 c1_i32_846
  let c1_i32_851 : BitVec 32 := 1#32
  let v692 : BitVec 32 := Scalar.muli v691 c1_i32_851
  let v693 : BitVec 32 := Scalar.addi c0_i32_852 v692
  v693.toNat
def k0_off24 (d0 : Dev nD) (c1408_i32 : BitVec 32) (c1_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v26 : BitVec 32 := Scalar.shrsi v2 c1_i32_16
  let c1_i32_17 : BitVec 32 := 1#32
  let v27 : BitVec 32 := Scalar.andi v26 c1_i32_17
  let c672_i32 : BitVec 32 := 672#32
  let v28 : BitVec 32 := Scalar.muli v27 c672_i32
  let v29 : BitVec 32 := Scalar.addi c1408_i32 v28
  let c0_i32_862 : BitVec 32 := 0#32
  ![v29.toNat, 0]
def k0_off24_at (r : Fin 2) : BitVec 32 × BitVec 32 :=
  if r.val < 1 then
    (1408#32, 1#32)
  else
    (2752#32, 2#32)
def k0_dev32 (d0 : Dev nD) : Nat :=
  let c0_i32_861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_855 : BitVec 32 := 3#32
  let v700 : BitVec 32 := Scalar.xori v2 c3_i32_855
  let c1_i32_860 : BitVec 32 := 1#32
  let v701 : BitVec 32 := Scalar.muli v700 c1_i32_860
  let v702 : BitVec 32 := Scalar.addi c0_i32_861 v701
  v702.toNat
def k0_dev33 (d0 : Dev nD) : Nat :=
  let c0_i32_870 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_864 : BitVec 32 := 4#32
  let v709 : BitVec 32 := Scalar.xori v2 c4_i32_864
  let c1_i32_869 : BitVec 32 := 1#32
  let v710 : BitVec 32 := Scalar.muli v709 c1_i32_869
  let v711 : BitVec 32 := Scalar.addi c0_i32_870 v710
  v711.toNat
abbrev stage0_0 : Fin 1 → Memref sig .tc .vmem S4096x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.KernelIdealMesh.lean ====
/-
The mesh arithmetic of the kernel: eight devices as the corners of a cube, each engine's three exchange masks, the
rows a device keeps and sends in each round, the devices and offsets the kernel computes in closed form, and the
codes that name its semaphores.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.KernelIdeal.AR

open Cert.KernelIdeal Cert.KernelIdeal.Gen
open Idealize.ShloMosaic Idealize.ShloMosaic.TcCoe
open Idealize.ShloMosaic.RefSig (tileCredit tileCredit_eq_zero tileCredit_pos)

/-! ## Partners -/

/-- The device whose number differs from `c`'s by the bits of `m`. -/
def xr (m : Fin 8) (c : Dev nD) : Dev nD := ⟨(c.val ^^^ m.val) % 8, Nat.mod_lt _ (by decide)⟩

theorem xr_xr (m : Fin 8) (c : Dev nD) : xr m (xr m c) = c := by revert m c; decide +kernel
theorem xr_ne (m : Fin 8) (h : m ≠ 0) (c : Dev nD) : xr m c ≠ c := by revert m c; decide +kernel

/-- The exchange mask of engine `e` in round `r`. -/
def mk : Fin 3 → Fin 3 → Fin 8
  | 0, 0 => 1 | 0, 1 => 3 | 0, 2 => 4
  | 1, 0 => 3 | 1, 1 => 4 | 1, 2 => 1
  | 2, 0 => 4 | 2, 1 => 1 | 2, 2 => 3

/-- `c`'s partner in engine `e`'s round `r`. -/
abbrev pt (e r : Fin 3) (c : Dev nD) : Dev nD := xr (mk e r) c
theorem pt_pt (e r : Fin 3) (c : Dev nD) : pt e r (pt e r c) = c := xr_xr _ _

/-! ## Rows -/

/-- The side a device keeps when it exchanges along the mask of engine `e`'s round `r`: 1 the upper half, 0 the lower. -/
def kb (e r : Fin 3) (c : Dev nD) : ℕ :=
  if mk e r = 1 then (c.val / 2 + c.val) % 2 else if mk e r = 3 then c.val / 2 % 2 else c.val / 4 % 2

/-- Rows a device sends in engine `e`'s round `r`. -/
def Hn : Fin 3 → Fin 3 → ℕ
  | 0, 0 => 704 | 0, 1 => 352 | 0, 2 => 176
  | 1, 0 => 672 | 1, 1 => 336 | 1, 2 => 168
  | 2, 0 => 672 | 2, 1 => 336 | 2, 2 => 168

/-- Rows of one message of engine `e`'s round `r`: two messages in rounds 0 and 1, one in round 2. -/
def Qn : Fin 3 → Fin 3 → ℕ
  | 0, 0 => 352 | 0, 1 => 176 | 0, 2 => 176
  | 1, 0 => 336 | 1, 1 => 168 | 1, 2 => 168
  | 2, 0 => 336 | 2, 1 => 168 | 2, 2 => 168

/-- The first row of engine `e`. -/
def base : Fin 3 → ℕ | 0 => 0 | 1 => 1408 | 2 => 2752

/-- The first row of what device `c` holds of engine `e` before round `r`. -/
def Sr (c : Dev nD) (e : Fin 3) : ℕ → ℕ
  | 0 => base e
  | 1 => base e + kb e 0 c * Hn e 0
  | 2 => base e + kb e 0 c * Hn e 0 + kb e 1 c * Hn e 1
  | _ => base e + kb e 0 c * Hn e 0 + kb e 1 c * Hn e 1 + kb e 2 c * Hn e 2

/-- The first row of what device `c` sends of engine `e` in round `r`. -/
def Tr (c : Dev nD) (e r : Fin 3) : ℕ := Sr c e r.val + (1 - kb e r c) * Hn e r

theorem kb_le (e r : Fin 3) (c : Dev nD) : kb e r c = 0 ∨ kb e r c = 1 := by revert e r c; decide +kernel
theorem S_succ (c : Dev nD) (e r : Fin 3) : Sr c e (r.val + 1) = Sr c e r.val + kb e r c * Hn e r := by revert c e r; decide +kernel
theorem T_pt (c : Dev nD) (e r : Fin 3) : Tr (pt e r c) e r = Sr c e (r.val + 1) := by revert c e r; decide +kernel
theorem S_pt (c : Dev nD) (e r : Fin 3) : Sr (pt e r c) e (r.val + 1) = Tr c e r := by revert c e r; decide +kernel
theorem S_pt0 (c : Dev nD) (e r : Fin 3) : Sr (pt e r c) e r.val = Sr c e r.val := by revert c e r; decide +kernel
theorem S_le (c : Dev nD) (e r : Fin 3) : Sr c e (r.val + 1) + Hn e r ≤ 4096 := by revert c e r; decide +kernel
theorem S_ge (c : Dev nD) (e r : Fin 3) : base e ≤ Sr c e (r.val + 1) ∧ Sr c e (r.val + 1) + Hn e r ≤ base e + 2 * Hn e 0 := by
  revert c e r; decide +kernel

/-- The engine a row belongs to. -/
def eng (row : ℕ) : Fin 3 := if row < 1408 then 0 else if row < 2752 then 1 else 2

/-- The device that ends up computing a row: the one whose rows after round 2 contain it. -/
def own (row : ℕ) : Dev nD :=
  match (List.finRange 8).find? (fun c => Sr c (eng row) 3 ≤ row ∧ row < Sr c (eng row) 3 + Hn (eng row) 2) with
  | some c => c
  | none => 0

theorem S3_sep : ∀ (e : Fin 3) (c d : Dev nD), c ≠ d → Sr c e 3 + Hn e 2 ≤ Sr d e 3 ∨ Sr d e 3 + Hn e 2 ≤ Sr c e 3 := by decide +kernel

theorem eng_of (e : Fin 3) {row : ℕ} (h : base e ≤ row) (h' : row < base e + 2 * Hn e 0) : eng row = e := by
  revert h h'; unfold eng
  fin_cases e <;> simp only [base, Hn] <;> intro h h' <;> (repeat' split) <;> first | rfl | (exfalso; omega)

theorem own_of (c : Dev nD) (e : Fin 3) {row : ℕ} (h : Sr c e 3 ≤ row) (h' : row < Sr c e 3 + Hn e 2) : own row = c := by
  have hg : base e ≤ Sr c e 3 ∧ Sr c e 3 + Hn e 2 ≤ base e + 2 * Hn e 0 := S_ge c e 2
  have he : eng row = e := eng_of e (by omega) (by omega)
  unfold own
  rw [he]
  have hf : (List.finRange 8).find? (fun c => Sr c e 3 ≤ row ∧ row < Sr c e 3 + Hn e 2) = some c := by
    rw [List.find?_eq_some_iff_append]
    refine ⟨by simp [h, h'], ?_⟩
    obtain ⟨l₁, l₂, hab⟩ := List.append_of_mem (List.mem_finRange c)
    refine ⟨l₁, l₂, hab, fun a ha => ?_⟩
    have hne : a ≠ c := fun hac => by
      subst hac
      have hnd := List.nodup_finRange 8
      rw [hab, List.nodup_append] at hnd
      exact hnd.2.2 a ha a List.mem_cons_self rfl
    have := S3_sep e a c hne
    simp only [Bool.not_eq_true', decide_eq_false_iff_not, not_and, not_lt]
    intro h1; omega
  rw [hf]

/-! ## Semaphores -/

/-- The kernel's semaphores by what they are for: the entry barrier, engine `e`'s credit, the send and receive
    semaphores of a reduce-scatter message (engine, round, which of its messages) and of an all-gather message
    (engine, round). -/
inductive Cd where
  | bar
  | cr (e : Fin 3)
  | sS (e r : Fin 3) (j : Fin 2)
  | sR (e r : Fin 3) (j : Fin 2)
  | gS (e k : Fin 3)
  | gR (e k : Fin 3)
deriving DecidableEq

/-- Every code. -/
def allCd : List Cd :=
  [.bar, .cr 0, .cr 1, .cr 2,
   .sS 0 0 0, .sS 0 0 1, .sS 0 1 0, .sS 0 1 1, .sS 0 2 0, .sS 0 2 1,
   .sS 1 0 0, .sS 1 0 1, .sS 1 1 0, .sS 1 1 1, .sS 1 2 0, .sS 1 2 1,
   .sS 2 0 0, .sS 2 0 1, .sS 2 1 0, .sS 2 1 1, .sS 2 2 0, .sS 2 2 1,
   .sR 0 0 0, .sR 0 0 1, .sR 0 1 0, .sR 0 1 1, .sR 0 2 0, .sR 0 2 1,
   .sR 1 0 0, .sR 1 0 1, .sR 1 1 0, .sR 1 1 1, .sR 1 2 0, .sR 1 2 1,
   .sR 2 0 0, .sR 2 0 1, .sR 2 1 0, .sR 2 1 1, .sR 2 2 0, .sR 2 2 1,
   .gS 0 0, .gS 0 1, .gS 0 2, .gS 1 0, .gS 1 1, .gS 1 2, .gS 2 0, .gS 2 1, .gS 2 2,
   .gR 0 0, .gR 0 1, .gR 0 2, .gR 1 0, .gR 1 1, .gR 1 2, .gR 2 0, .gR 2 1, .gR 2 2]

theorem allCd_nodup : allCd.Nodup := by decide +kernel
theorem mem_allCd (k : Cd) : k ∈ allCd := by
  cases k with
  | bar => decide
  | cr e => revert e; decide
  | sS e r j => revert e r j; decide +kernel
  | sR e r j => revert e r j; decide +kernel
  | gS e k => revert e k; decide +kernel
  | gR e k => revert e k; decide +kernel

instance : Fintype Cd := ⟨⟨allCd, allCd_nodup⟩, mem_allCd⟩

abbrev dsS (e r : Fin 3) (j : Fin 2) : DmaSem sig := ⟨5 + (6 * e.val + 2 * r.val + j.val), by have := e.2; have := r.2; have := j.2; show _ < 59; omega⟩
abbrev dsR (e r : Fin 3) (j : Fin 2) : DmaSem sig := ⟨23 + (6 * e.val + 2 * r.val + j.val), by have := e.2; have := r.2; have := j.2; show _ < 59; omega⟩
abbrev dgS (e k : Fin 3) : DmaSem sig := ⟨41 + (3 * e.val + k.val), by have := e.2; have := k.2; show _ < 59; omega⟩
abbrev dgR (e k : Fin 3) : DmaSem sig := ⟨50 + (3 * e.val + k.val), by have := e.2; have := k.2; show _ < 59; omega⟩
abbrev scr (e : Fin 3) : Sem sig := ⟨e.val, by have := e.2; show _ < 4; omega⟩
abbrev sbar : Sem sig := ⟨3, by decide⟩

/-- The semaphore a code names. -/
def loc : Cd → SemLoc sig
  | .bar => .reg sbar
  | .cr e => .reg (scr e)
  | .sS e r j => .dma (dsS e r j)
  | .sR e r j => .dma (dsR e r j)
  | .gS e k => .dma (dgS e k)
  | .gR e k => .dma (dgR e k)

/-- The code of a semaphore: none for the staging semaphores. -/
def kd : SemLoc sig → Option Cd
  | .reg s => if s.val = 3 then some .bar else some (.cr ⟨s.val % 3, Nat.mod_lt _ (by decide)⟩)
  | .dma s =>
    if s.val < 5 then none
    else if s.val < 23 then some (.sS ⟨(s.val - 5) / 6 % 3, Nat.mod_lt _ (by decide)⟩ ⟨(s.val - 5) / 2 % 3, Nat.mod_lt _ (by decide)⟩ ⟨(s.val - 5) % 2, Nat.mod_lt _ (by decide)⟩)
    else if s.val < 41 then some (.sR ⟨(s.val - 23) / 6 % 3, Nat.mod_lt _ (by decide)⟩ ⟨(s.val - 23) / 2 % 3, Nat.mod_lt _ (by decide)⟩ ⟨(s.val - 23) % 2, Nat.mod_lt _ (by decide)⟩)
    else if s.val < 50 then some (.gS ⟨(s.val - 41) / 3 % 3, Nat.mod_lt _ (by decide)⟩ ⟨(s.val - 41) % 3, Nat.mod_lt _ (by decide)⟩)
    else some (.gR ⟨(s.val - 50) / 3 % 3, Nat.mod_lt _ (by decide)⟩ ⟨(s.val - 50) % 3, Nat.mod_lt _ (by decide)⟩)

theorem kd_loc (k : Cd) : kd (loc k) = some k := by revert k; decide +kernel
theorem loc_injective : Function.Injective loc := fun a b h => Option.some.inj ((kd_loc a).symm.trans ((congrArg kd h).trans (kd_loc b)))

abbrev cell (c : Dev nD) (k : Cd) : GSem nD τ sig := ((c : Thread nD τ), loc k)

theorem cell_inj {c c' : Dev nD} {k k' : Cd} (h : cell c k = cell c' k') : c = c' ∧ k = k' :=
  ⟨congrArg (fun g : GSem nD τ sig => g.1.1) h, loc_injective (congrArg Prod.snd h)⟩

/-- A matrix of `n` rows of the result's width. -/
abbrev Sh (n : ℕ) : Shape := ⟨2, ![n, 2048]⟩

/-- What one message credits its semaphore. -/
def amt : Cd → ℕ
  | .bar => 1
  | .cr _ => 1
  | .sS e r _ => tileCredit (Sh (Qn e r)) .f32
  | .sR e r _ => tileCredit (Sh (Qn e r)) .f32
  | .gS e k => tileCredit (Sh (Hn e k)) .f32
  | .gR e k => tileCredit (Sh (Hn e k)) .f32

theorem amt_pos (k : Cd) : 0 < amt k := by
  have hq : ∀ e r, 0 < (Sh (Qn e r)).numel := by decide
  have hh : ∀ e r, 0 < (Sh (Hn e r)).numel := by decide
  cases k with
  | bar => exact Nat.one_pos
  | cr e => exact Nat.one_pos
  | sS e r j => exact tileCredit_pos _ _ (hq e r)
  | sR e r j => exact tileCredit_pos _ _ (hq e r)
  | gS e k => exact tileCredit_pos _ _ (hh e k)
  | gR e k => exact tileCredit_pos _ _ (hh e k)

end Cert.KernelIdeal.AR

end
-- ==== Proof.KernelIdealAddr.lean ====
/-
Where the kernel's own address arithmetic leads: the first row of every slice it takes of the result, and the device every transfer or
signal goes to, as the rows and the partners the plan speaks of.
-/
module

public import proofs.«01_k».proof.Proof.KernelIdealMesh

@[expose] public section

noncomputable section

namespace Cert.KernelIdeal.AR

open Cert.KernelIdeal Cert.KernelIdeal.Gen
open Idealize.ShloMosaic Idealize.ShloMosaic.TcCoe

/-- Where message `j` of engine `e`'s round `r` is taken from. -/
def sentAt (c : Dev nD) (e r : Fin 3) (j : Fin 2) : Fin 2 → ℕ := ![Tr c e r + j.val * Qn e r, 0]

/-- Where message `j` of engine `e`'s round `r` is added. -/
def addAt (c : Dev nD) (e r : Fin 3) (j : Fin 2) : Fin 2 → ℕ := ![Sr c e (r.val + 1) + j.val * Qn e r, 0]

/-- Where the all-gather message of engine `e`'s level `k` begins. -/
def partAt (c : Dev nD) (e k : Fin 3) : Fin 2 → ℕ := ![Sr c e (k.val + 1), 0]

/-! ## Rows sent -/

theorem sent_0_0_0 : ∀ c : Dev nD, k0_off1 c 0#32 = sentAt c 0 0 0 := by decide +kernel
theorem sent_0_0_1 : ∀ c : Dev nD, k0_off1 c 352#32 = sentAt c 0 0 1 := by decide +kernel
theorem sent_1_0_0 : ∀ c : Dev nD, k0_off2 c 1408#32 1#32 0#32 = sentAt c 1 0 0 := by decide +kernel
theorem sent_1_0_1 : ∀ c : Dev nD, k0_off2 c 1408#32 1#32 336#32 = sentAt c 1 0 1 := by decide +kernel
theorem sent_2_0_0 : ∀ c : Dev nD, k0_off2 c 2752#32 2#32 0#32 = sentAt c 2 0 0 := by decide +kernel
theorem sent_2_0_1 : ∀ c : Dev nD, k0_off2 c 2752#32 2#32 336#32 = sentAt c 2 0 1 := by decide +kernel
theorem sent_0_1_0 : ∀ c : Dev nD, k0_off5 c 0#32 = sentAt c 0 1 0 := by decide +kernel
theorem sent_0_1_1 : ∀ c : Dev nD, k0_off5 c 176#32 = sentAt c 0 1 1 := by decide +kernel
theorem sent_1_1_0 : ∀ c : Dev nD, k0_off6 c 0#32 = sentAt c 1 1 0 := by decide +kernel
theorem sent_1_1_1 : ∀ c : Dev nD, k0_off6 c 168#32 = sentAt c 1 1 1 := by decide +kernel
theorem sent_2_1_0 : ∀ c : Dev nD, k0_off7 c 0#32 = sentAt c 2 1 0 := by decide +kernel
theorem sent_2_1_1 : ∀ c : Dev nD, k0_off7 c 168#32 = sentAt c 2 1 1 := by decide +kernel
theorem sent_0_2_0 : ∀ c : Dev nD, k0_off11 c = sentAt c 0 2 0 := by decide +kernel
theorem sent_1_2_0 : ∀ c : Dev nD, k0_off12 c = sentAt c 1 2 0 := by decide +kernel
theorem sent_2_2_0 : ∀ c : Dev nD, k0_off13 c = sentAt c 2 2 0 := by decide +kernel

/-! ## Rows added to -/

theorem add_0_0_0 : ∀ c : Dev nD, k0_off3 c 0#32 = addAt c 0 0 0 := by decide +kernel
theorem add_0_0_1 : ∀ c : Dev nD, k0_off3 c 352#32 = addAt c 0 0 1 := by decide +kernel
theorem add_1_0_0 : ∀ c : Dev nD, k0_off4 c 1408#32 1#32 0#32 = addAt c 1 0 0 := by decide +kernel
theorem add_1_0_1 : ∀ c : Dev nD, k0_off4 c 1408#32 1#32 336#32 = addAt c 1 0 1 := by decide +kernel
theorem add_2_0_0 : ∀ c : Dev nD, k0_off4 c 2752#32 2#32 0#32 = addAt c 2 0 0 := by decide +kernel
theorem add_2_0_1 : ∀ c : Dev nD, k0_off4 c 2752#32 2#32 336#32 = addAt c 2 0 1 := by decide +kernel
theorem add_0_1_0 : ∀ c : Dev nD, k0_off8 c 0#32 = addAt c 0 1 0 := by decide +kernel
theorem add_0_1_1 : ∀ c : Dev nD, k0_off8 c 176#32 = addAt c 0 1 1 := by decide +kernel
theorem add_1_1_0 : ∀ c : Dev nD, k0_off9 c 0#32 = addAt c 1 1 0 := by decide +kernel
theorem add_1_1_1 : ∀ c : Dev nD, k0_off9 c 168#32 = addAt c 1 1 1 := by decide +kernel
theorem add_2_1_0 : ∀ c : Dev nD, k0_off10 c 0#32 = addAt c 2 1 0 := by decide +kernel
theorem add_2_1_1 : ∀ c : Dev nD, k0_off10 c 168#32 = addAt c 2 1 1 := by decide +kernel
theorem add_0_2_0 : ∀ c : Dev nD, k0_off14 c = addAt c 0 2 0 := by decide +kernel
theorem add_1_2_0 : ∀ c : Dev nD, k0_off15 c = addAt c 1 2 0 := by decide +kernel
theorem add_2_2_0 : ∀ c : Dev nD, k0_off16 c = addAt c 2 2 0 := by decide +kernel

/-! ## Rows of the all-gather -/

theorem part_0_2 : ∀ c : Dev nD, k0_off17 c = partAt c 0 2 := by decide +kernel
theorem part_1_2 : ∀ c : Dev nD, k0_off18 c = partAt c 1 2 := by decide +kernel
theorem part_2_2 : ∀ c : Dev nD, k0_off19 c = partAt c 2 2 := by decide +kernel
theorem part_0_1 : ∀ c : Dev nD, k0_off20 c = partAt c 0 1 := by decide +kernel
theorem part_1_1 : ∀ c : Dev nD, k0_off21 c = partAt c 1 1 := by decide +kernel
theorem part_2_1 : ∀ c : Dev nD, k0_off22 c = partAt c 2 1 := by decide +kernel
theorem part_0_0 : ∀ c : Dev nD, k0_off23 c = partAt c 0 0 := by decide +kernel
theorem part_1_0 : ∀ c : Dev nD, k0_off24 c 1408#32 1#32 = partAt c 1 0 := by decide +kernel
theorem part_2_0 : ∀ c : Dev nD, k0_off24 c 2752#32 2#32 = partAt c 2 0 := by decide +kernel

/-! ## Devices -/

theorem dev_1 : ∀ c : Dev nD, (⟨k0_dev1 c, k0_dev1_lt c⟩ : Dev nD) = xr 1 c := by decide +kernel
theorem dev_2 : ∀ c : Dev nD, (⟨k0_dev2 c, k0_dev2_lt c⟩ : Dev nD) = xr 3 c := by decide +kernel
theorem dev_3 : ∀ c : Dev nD, (⟨k0_dev3 c, k0_dev3_lt c⟩ : Dev nD) = xr 4 c := by decide +kernel
theorem dev_4 : ∀ c : Dev nD, (⟨k0_dev4 c, k0_dev4_lt c⟩ : Dev nD) = pt 0 0 c := by decide +kernel
theorem dev_5 : ∀ c : Dev nD, (⟨k0_dev5 c, k0_dev5_lt c⟩ : Dev nD) = pt 0 0 c := by decide +kernel
theorem dev_6 : ∀ c : Dev nD, (⟨k0_dev6 c, k0_dev6_lt c⟩ : Dev nD) = pt 1 0 c := by decide +kernel
theorem dev_7 : ∀ c : Dev nD, (⟨k0_dev7 c, k0_dev7_lt c⟩ : Dev nD) = pt 1 0 c := by decide +kernel
theorem dev_8 : ∀ c : Dev nD, (⟨k0_dev8 c, k0_dev8_lt c⟩ : Dev nD) = pt 2 0 c := by decide +kernel
theorem dev_9 : ∀ c : Dev nD, (⟨k0_dev9 c, k0_dev9_lt c⟩ : Dev nD) = pt 2 0 c := by decide +kernel
theorem dev_10 : ∀ c : Dev nD, (⟨k0_dev10 c, k0_dev10_lt c⟩ : Dev nD) = pt 0 1 c := by decide +kernel
theorem dev_11 : ∀ c : Dev nD, (⟨k0_dev11 c, k0_dev11_lt c⟩ : Dev nD) = pt 1 1 c := by decide +kernel
theorem dev_12 : ∀ c : Dev nD, (⟨k0_dev12 c, k0_dev12_lt c⟩ : Dev nD) = pt 2 1 c := by decide +kernel
theorem dev_13 : ∀ c : Dev nD, (⟨k0_dev13 c, k0_dev13_lt c⟩ : Dev nD) = pt 0 1 c := by decide +kernel
theorem dev_14 : ∀ c : Dev nD, (⟨k0_dev14 c, k0_dev14_lt c⟩ : Dev nD) = pt 0 1 c := by decide +kernel
theorem dev_15 : ∀ c : Dev nD, (⟨k0_dev15 c, k0_dev15_lt c⟩ : Dev nD) = pt 1 1 c := by decide +kernel
theorem dev_16 : ∀ c : Dev nD, (⟨k0_dev16 c, k0_dev16_lt c⟩ : Dev nD) = pt 1 1 c := by decide +kernel
theorem dev_17 : ∀ c : Dev nD, (⟨k0_dev17 c, k0_dev17_lt c⟩ : Dev nD) = pt 2 1 c := by decide +kernel
theorem dev_18 : ∀ c : Dev nD, (⟨k0_dev18 c, k0_dev18_lt c⟩ : Dev nD) = pt 2 1 c := by decide +kernel
theorem dev_19 : ∀ c : Dev nD, (⟨k0_dev19 c, k0_dev19_lt c⟩ : Dev nD) = pt 0 2 c := by decide +kernel
theorem dev_20 : ∀ c : Dev nD, (⟨k0_dev20 c, k0_dev20_lt c⟩ : Dev nD) = pt 1 2 c := by decide +kernel
theorem dev_21 : ∀ c : Dev nD, (⟨k0_dev21 c, k0_dev21_lt c⟩ : Dev nD) = pt 2 2 c := by decide +kernel
theorem dev_22 : ∀ c : Dev nD, (⟨k0_dev22 c, k0_dev22_lt c⟩ : Dev nD) = pt 0 2 c := by decide +kernel
theorem dev_23 : ∀ c : Dev nD, (⟨k0_dev23 c, k0_dev23_lt c⟩ : Dev nD) = pt 1 2 c := by decide +kernel
theorem dev_24 : ∀ c : Dev nD, (⟨k0_dev24 c, k0_dev24_lt c⟩ : Dev nD) = pt 2 2 c := by decide +kernel
theorem dev_25 : ∀ c : Dev nD, (⟨k0_dev25 c, k0_dev25_lt c⟩ : Dev nD) = pt 0 2 c := by decide +kernel
theorem dev_26 : ∀ c : Dev nD, (⟨k0_dev26 c, k0_dev26_lt c⟩ : Dev nD) = pt 1 2 c := by decide +kernel
theorem dev_27 : ∀ c : Dev nD, (⟨k0_dev27 c, k0_dev27_lt c⟩ : Dev nD) = pt 2 2 c := by decide +kernel
theorem dev_28 : ∀ c : Dev nD, (⟨k0_dev28 c, k0_dev28_lt c⟩ : Dev nD) = pt 0 1 c := by decide +kernel
theorem dev_29 : ∀ c : Dev nD, (⟨k0_dev29 c, k0_dev29_lt c⟩ : Dev nD) = pt 1 1 c := by decide +kernel
theorem dev_30 : ∀ c : Dev nD, (⟨k0_dev30 c, k0_dev30_lt c⟩ : Dev nD) = pt 2 1 c := by decide +kernel
theorem dev_31 : ∀ c : Dev nD, (⟨k0_dev31 c, k0_dev31_lt c⟩ : Dev nD) = pt 0 0 c := by decide +kernel
theorem dev_32 : ∀ c : Dev nD, (⟨k0_dev32 c, k0_dev32_lt c⟩ : Dev nD) = pt 1 0 c := by decide +kernel
theorem dev_33 : ∀ c : Dev nD, (⟨k0_dev33 c, k0_dev33_lt c⟩ : Dev nD) = pt 2 0 c := by decide +kernel

end Cert.KernelIdeal.AR

end
-- ==== Proof.KernelIdealRows.lean ====
/-
Rows of a device's matrices: holding a range of rows of a buffer at known contents, splitting and joining ranges,
and the load, store and transfer of a range.
-/
module

public import proofs.«01_k».proof.Proof.KernelIdealMesh

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the kernel's own (three duty names), the landing buffers' records -/

abbrev UB : Type := URounds (GSem nD τ sig) (Fin 3)
abbrev UK : Type := Release.USlots (Dev nD × Fin 3)
abbrev UU : Type := UR sig nD τ × (UB × UK)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × UK)).trans embR
abbrev EL : Emb UK (MT nD τ sig ℕ (Elt F) ℕ UU ℕ) := (Emb.inr : Emb UK (UB × UK)).trans embR

/-! ## Contents by row and column -/

/-- Contents by row and column numbers. -/
abbrev Ct (F : FTy → Type) : Type := ℕ → ℕ → Elt F .f32

/-- The index at a row and column, both reduced into range. -/
def ix {n : ℕ} (hn : 0 < n) (row col : ℕ) : (Sh n).Idx :=
  fun a => Fin.cases (motive := fun a => Fin ((Sh n).size a)) ⟨row % n, Nat.mod_lt _ hn⟩ (fun b => ⟨col % (Sh n).size b.succ, Nat.mod_lt _ (by fin_cases b; show 0 < 2048; decide)⟩) a

theorem ix_self {n : ℕ} (hn : 0 < n) (i : (Sh n).Idx) : ix hn (i 0).val (i 1).val = i := by
  funext a
  fin_cases a
  · exact Fin.ext (Nat.mod_eq_of_lt (i 0).isLt)
  · exact Fin.ext (Nat.mod_eq_of_lt (i 1).isLt)

section Rows
variable {h : ℕ} (M : Memref sig .tc .vmem (Sh h) .f32) (c : Dev nD)

/-- The elements in rows `[a, a + n)`. -/
def rset (a n : ℕ) : Finset M.view.ty.Idx :=
  (Finset.univ.filter fun i : (Sh h).Idx => a ≤ (i 0).val ∧ (i 0).val < a + n).map M.view.emb

theorem rset_disj {a n a' n' : ℕ} (hd : a + n ≤ a') : Disjoint (rset M a n) (rset M a' n') := by
  unfold rset
  rw [Finset.disjoint_map]
  exact Finset.disjoint_left.mpr fun i h1 h2 => by
    simp only [Finset.mem_filter] at h1 h2; omega

theorem rset_add (a n n' : ℕ) : rset M a (n + n') = rset M a n ∪ rset M (a + n) n' := by
  unfold rset
  rw [← Finset.map_union]
  congr 1
  ext i
  simp only [Finset.mem_filter, Finset.mem_univ, _root_.true_and, Finset.mem_union]
  omega

theorem mem_rset {a n : ℕ} {i : (Sh h).Idx} : M.view.emb i ∈ rset M a n ↔ a ≤ (i 0).val ∧ (i 0).val < a + n := by
  unfold rset
  simp

/-- Rows `[a, a + n)` of device `c`'s buffer, holding `A`. -/
def rows (a n : ℕ) (A : Ct F) : sProp 𝕄 :=
  iprop(∃ f : Buf (Elt F) (M.view.loc (c : Thread nD τ)),
    ⌜∀ i : (Sh h).Idx, a ≤ (i 0).val → (i 0).val < a + n → M.view.read (Elt F) f i = A (i 0).val (i 1).val⌝
    ∗ (M.view.loc (c : Thread nD τ) ↦[rset M a n]{fullShare} f))

/-- Those rows at some contents. -/
def rowsAny (a n : ℕ) : sProp 𝕄 := iprop(∃ A : Ct F, rows M c a n A)

instance rows_storable (a n : ℕ) (A : Ct F) : BI.Storable (upEmb : UEmb _ 𝕄) (rows M c a n A) := by unfold rows; infer_instance
instance rowsAny_storable (a n : ℕ) : BI.Storable (upEmb : UEmb _ 𝕄) (rowsAny (F := F) M c a n) := by unfold rowsAny; infer_instance

theorem rows_any (a n : ℕ) (A : Ct F) : rows M c a n A ⊢ (rowsAny M c a n : sProp 𝕄) := by
  unfold rowsAny; iintro H; iexists A; iexact H

theorem rows_mono {a n : ℕ} {A B : Ct F} (hAB : ∀ i j, a ≤ i → i < a + n → A i j = B i j) : rows M c a n A ⊢ (rows M c a n B : sProp 𝕄) := by
  unfold rows
  iintro ⟨%f, %hf, H⟩
  iexists f
  isplitr; · ipureintro; exact fun i h1 h2 => (hf i h1 h2).trans (hAB _ _ h1 h2)
  iexact H

theorem rows_split (a n n' : ℕ) (A : Ct F) : rows M c a (n + n') A ⊢ (iprop(rows M c a n A ∗ rows M c (a + n) n' A) : sProp 𝕄) := by
  unfold rows
  rw [rset_add]
  iintro ⟨%f, %hf, H⟩
  ihave H' := (pointsTo_union (rset_disj M (Nat.le_refl (a + n)))).1 $$ H
  icases H' with ⟨H1, H2⟩
  isplitl [H1]
  · iexists f; isplitr; · ipureintro; exact fun i h1 h2 => hf i h1 (by omega)
    iexact H1
  · iexists f; isplitr; · ipureintro; exact fun i h1 h2 => hf i (by omega) (by omega)
    iexact H2

theorem rows_join (a n n' : ℕ) (A : Ct F) : iprop(rows M c a n A ∗ rows M c (a + n) n' A) ⊢ (rows M c a (n + n') A : sProp 𝕄) := by
  unfold rows
  rw [rset_add]
  iintro ⟨⟨%f, %hf, H1⟩, ⟨%g, %hg, H2⟩⟩
  iexists ((rset M (a + n) n').piecewise g f)
  isplitr
  · ipureintro
    intro i h1 h2
    rw [View.read_apply]
    by_cases hi : (i 0).val < a + n
    · rw [Finset.piecewise_eq_of_notMem _ _ _ (fun hm => by have := (mem_rset M).mp hm; omega), ← View.read_apply]
      exact hf i h1 hi
    · rw [Finset.piecewise_eq_of_mem _ _ _ ((mem_rset M).mpr ⟨by omega, by omega⟩), ← View.read_apply]
      exact hg i (by omega) (by omega)
  · iapply (pointsTo_join (rset_disj M (Nat.le_refl (a + n))))
    isplitl [H1] <;> iassumption

theorem any_split (a n n' : ℕ) : (rowsAny M c a (n + n') : sProp 𝕄) ⊢ iprop(rowsAny M c a n ∗ rowsAny M c (a + n) n') := by
  conv_lhs => unfold rowsAny
  iintro ⟨%A, H⟩
  ihave H' := (rows_split M c a n n' A) $$ H
  icases H' with ⟨H1, H2⟩
  isplitl [H1]
  · iapply (rows_any M c a n A); iexact H1
  · iapply (rows_any M c (a + n) n' A); iexact H2

theorem any_join (a n n' : ℕ) : iprop(rowsAny M c a n ∗ rowsAny M c (a + n) n') ⊢ (rowsAny M c a (n + n') : sProp 𝕄) := by
  conv_lhs => unfold rowsAny
  iintro ⟨⟨%A, H1⟩, ⟨%B, H2⟩⟩
  iapply (rows_any M c a (n + n') (fun i j => if i < a + n then A i j else B i j))
  iapply (rows_join M c a n n' _)
  isplitl [H1]
  · iapply (rows_mono M c (A := A) (fun i j h1 h2 => (if_pos h2).symm)); iexact H1
  · iapply (rows_mono M c (A := B) (fun i j h1 h2 => (if_neg (by omega)).symm)); iexact H2

theorem rset_all (hM : M.view.set = Finset.univ) : rset M 0 h = Finset.univ := by
  rw [← hM]; unfold rset View.set
  congr 1; ext i
  have : (i 0).val < h := (i 0).isLt
  simp only [Finset.mem_filter, Finset.mem_univ, _root_.true_and, iff_true]
  exact ⟨Nat.zero_le _, by omega⟩

/-- No rows: nothing to hold. -/
theorem rows_zero (a : ℕ) (A : Ct F) (f : Buf (Elt F) (M.view.loc (c : Thread nD τ))) : (emp : sProp 𝕄) ⊢ rows M c a 0 A := by
  unfold rows
  have hs : rset M a 0 = ∅ := by
    unfold rset
    rw [Finset.map_eq_empty]
    exact Finset.filter_eq_empty_iff.mpr fun i _ => by omega
  rw [hs]
  iintro -
  iexists f
  isplitr; · ipureintro; exact fun i h1 h2 => by omega
  rw [pointsTo_empty]; iempintro

/-- A whole buffer at any contents is all its rows. -/
theorem whole_any (hM : M.view.set = Finset.univ) (f : Buf (Elt F) (M.view.loc (c : Thread nD τ))) (hh : 0 < h) :
    (M.view.loc (c : Thread nD τ) ↦{fullShare} f) ⊢ (rows M c 0 h (fun i j => M.view.read (Elt F) f (ix hh i j)) : sProp 𝕄) := by
  unfold rows
  iintro H
  iexists f
  isplitr; · ipureintro; intro i _ _; show _ = M.view.read (Elt F) f (ix hh (i 0).val (i 1).val); rw [ix_self]
  rw [rset_all M hM]; iexact H

theorem any_whole (hM : M.view.set = Finset.univ) (A : Ct F) : (rows M c 0 h A : sProp 𝕄) ⊢
    iprop(∃ f : Buf (Elt F) (M.view.loc (c : Thread nD τ)), ⌜∀ i : (Sh h).Idx, M.view.read (Elt F) f i = A (i 0).val (i 1).val⌝ ∗ (M.view.loc (c : Thread nD τ) ↦{fullShare} f)) := by
  unfold rows
  rw [rset_all M hM]
  iintro ⟨%f, %hf, H⟩
  iexists f
  isplitr; · ipureintro; exact fun i => hf i (Nat.zero_le _) (by have : (i 0).val < h := (i 0).isLt; omega)
  iexact H

theorem rowsAny_false {a n : ℕ} (ha : a < h) (hn : 0 < n) : iprop(rowsAny M c a n ∗ rowsAny M c a n) ⊢ (False : sProp 𝕄) := by
  unfold rowsAny rows
  iintro ⟨⟨%A, %f, %hf, H1⟩, ⟨%B, %g, %hg, H2⟩⟩
  have hm : M.view.emb (ix (Nat.zero_lt_of_lt ha) a 0) ∈ rset M a n := (mem_rset M).mpr (by
    have : (ix (Nat.zero_lt_of_lt ha) a 0 0).val = a := Nat.mod_eq_of_lt ha
    omega)
  iapply (pointsTo_overlap_false (q := fullShare) (f := f) (g := g) hm hm)
  isplitl [H1] <;> iassumption

/-! ## A range of rows as a rectangle -/

theorem off_row {n a : ℕ} {off : Fin 2 → ℕ} (hoff : off = ![a, 0]) (inb : ∀ x, off x + (Sh n).size x ≤ (Sh h).size x) (j : (Sh n).Idx) :
    ((Rect.unit (s := Sh h) off (Sh n).size inb).emb j 0).val = a + (j 0).val ∧ ((Rect.unit (s := Sh h) off (Sh n).size inb).emb j 1).val = (j 1).val := by
  subst hoff
  constructor
  · rw [Rect.emb_apply]; show a + 1 * (j 0).val = _; omega
  · rw [Rect.emb_apply]; show 0 + 1 * (j 1).val = _; omega

theorem access_set {n a : ℕ} {off : Fin 2 → ℕ} (hoff : off = ![a, 0]) (inb : ∀ x, off x + (Sh n).size x ≤ (Sh h).size x) :
    (M.view.slice (Rect.unit (s := Sh h) off (Sh n).size inb)).set = rset M a n := by
  rw [View.set_slice]
  unfold rset
  congr 1
  ext i
  subst hoff
  simp only [Rect.mem_set_unit, Finset.mem_filter, Finset.mem_univ, _root_.true_and]
  constructor
  · intro hi; exact hi 0
  · intro hi x
    fin_cases x
    · exact hi
    · exact ⟨Nat.zero_le _, by show (i 1).val < 0 + 2048; have : (i 1).val < 2048 := (i 1).isLt; omega⟩

theorem access_read {n a : ℕ} {off : Fin 2 → ℕ} (hoff : off = ![a, 0]) (inb : ∀ x, off x + (Sh n).size x ≤ (Sh h).size x)
    (f : M.view.ty.Contents (Elt F)) (j : (Sh n).Idx) :
    (M.view.slice (Rect.unit (s := Sh h) off (Sh n).size inb)).read (Elt F) f j
      = M.view.read (Elt F) f ((Rect.unit (s := Sh h) off (Sh n).size inb).emb j) := rfl

end Rows

/-! ## Loads and stores -/

abbrev 𝒱₀ : Variants := Variants.none

section Ops
variable {h : ℕ} {M : Memref sig .tc .vmem (Sh h) .f32} {c : Dev nD}

/-- A load of some of the rows held reads their contents. -/
theorem wp_load_rows {α : Type} {Q : α → sProp 𝕄} {n a a' n' : ℕ} {A : Ct F} {off : Fin 2 → ℕ} (hoff : off = ![a, 0]) (h1 : a' ≤ a) (h2 : a + n ≤ a' + n')
    {inb : ∀ x, off x + (Sh n).size x ≤ (Sh h).size x} {hl : M.view.LoadsAt (Rect.unit (s := Sh h) off (Sh n).size inb).toLoadRect}
    {k : ((Sh n).Idx → Elt F .f32) → Prog (TpuEff nD τ sig (Elt F) Λ₀ .tc) α} :
    (rows M c a' n' A : sProp 𝕄)
      ⊢ iprop((rows M c a' n' A -∗ wp frame (wpE (defs₀ (F := F)) 𝒱₀ (c : Thread nD τ) none) Set.univ (k fun i => A (a + (i 0).val) (i 1).val) Q)
        -∗ wp frame (wpE (defs₀ (F := F)) 𝒱₀ (c : Thread nD τ) none) Set.univ (.op (.load M (Rect.unit (s := Sh h) off (Sh n).size inb).toLoadRect hl) k) Q) := by
  unfold rows
  iintro ⟨%f, %hf, H⟩ Hk
  have hset : (M.access (Rect.unit (s := Sh h) off (Sh n).size inb)).set ⊆ rset M a' n' := by
    show (M.view.slice (Rect.unit (s := Sh h) off (Sh n).size inb)).set ⊆ _
    rw [access_set M hoff inb]
    unfold rset
    exact Finset.map_subset_map.mpr fun i hi => by simp only [Finset.mem_filter, Finset.mem_univ, _root_.true_and] at hi ⊢; omega
  have hval : ((M.access (Rect.unit (s := Sh h) off (Sh n).size inb)).read (Elt F) f : (Sh n).Idx → Elt F .f32) = fun i => A (a + (i 0).val) (i 1).val := by
    funext i
    have ho := off_row (h := h) (n := n) hoff inb i
    have hi : (i 0).val < n := (i 0).isLt
    refine (hf ((Rect.unit (s := Sh h) off (Sh n).size inb).emb i) (by omega) (by omega)).trans ?_
    rw [ho.1, ho.2]
  iapply (wp_load_rect 𝒱₀ (c : Thread nD τ) none Set.univ (m := M) (r := Rect.unit (s := Sh h) off (Sh n).size inb) hset) $$ H
  iintro H
  rw [hval]
  iapply Hk
  iexists f
  isplitr; · ipureintro; exact hf
  iexact H

/-- A store over rows held makes their contents the values stored. -/
theorem wp_store_rows {α : Type} {Q : α → sProp 𝕄} {n a : ℕ} {A : Ct F} {off : Fin 2 → ℕ} (hoff : off = ![a, 0])
    {inb : ∀ x, off x + (Sh n).size x ≤ (Sh h).size x} {w : (Sh n).Idx → Elt F .f32}
    {hx : (M.access (Rect.unit (s := Sh h) off (Sh n).size inb)).Stores Finset.univ} {hm : Finset.univ = Finset.univ ∨ ∀ a, (Rect.unit (s := Sh h) off (Sh n).size inb).stride a = 1}
    (hw : ∀ i : (Sh n).Idx, w i = A (a + (i 0).val) (i 1).val)
    {k : PUnit → Prog (TpuEff nD τ sig (Elt F) Λ₀ .tc) α} :
    (rowsAny M c a n : sProp 𝕄)
      ⊢ iprop((rows M c a n A -∗ wp frame (wpE (defs₀ (F := F)) 𝒱₀ (c : Thread nD τ) none) Set.univ (k ⟨⟩) Q)
        -∗ wp frame (wpE (defs₀ (F := F)) 𝒱₀ (c : Thread nD τ) none) Set.univ (.op (.store M (Rect.unit (s := Sh h) off (Sh n).size inb) w Finset.univ hx hm) k) Q) := by
  unfold rowsAny rows
  iintro ⟨%B, %f, -, H⟩ Hk
  have hset : (M.access (Rect.unit (s := Sh h) off (Sh n).size inb)).setOn Finset.univ ⊆ rset M a n := by
    show (M.view.slice (Rect.unit (s := Sh h) off (Sh n).size inb)).set ⊆ _
    rw [access_set M hoff inb]
  iapply (wp_store 𝒱₀ (c : Thread nD τ) none Set.univ (m := M) (r := Rect.unit (s := Sh h) off (Sh n).size inb) (Mk := Finset.univ) (f := f) hset) $$ H
  iintro H
  iapply Hk
  iexists _
  isplitr
  rotate_left
  · iexact H
  ipureintro
  intro i h1 h2
  have hi : M.view.emb i ∈ (M.view.slice (Rect.unit (s := Sh h) off (Sh n).size inb)).set := by
    rw [access_set M hoff inb]; exact (mem_rset M).mpr ⟨h1, h2⟩
  obtain ⟨j, -, hj⟩ := Finset.mem_map.mp hi
  obtain rfl : (Rect.unit (s := Sh h) off (Sh n).size inb).emb j = i := M.view.emb.injective hj
  have ho := off_row (h := h) (n := n) hoff inb j
  rw [ho.1, ho.2, ← hw j]
  exact congrFun (View.read_write_univ (Val := Elt F) (v := M.access (Rect.unit (s := Sh h) off (Sh n).size inb)) (f := f) (w := w)) j

end Ops

end Cert.KernelIdeal.AR

end
-- ==== Proof.KernelIdealPlan.lean ====
/-
The plan of a device's run: the pieces of state it holds (`Atom`), the steps it takes (`Stp`) with the pieces each
step uses up and leaves, the list of steps in program order, and the check that every step finds what it uses and
that every wait is for something due before all that is still owed.
-/
module

public import proofs.«01_k».proof.Proof.KernelIdealMesh

@[expose] public section

open Cert.KernelIdeal Cert.KernelIdeal.Gen
open Idealize.ShloMosaic Idealize.ShloMosaic.TcCoe

namespace Cert.KernelIdeal.AR

/-- The pieces of state a device holds during its run. -/
inductive Atom where
  /-- its position before the one round of its semaphore `k` -/
  | pos (k : Cd)
  /-- its position at engine `e`'s credit semaphore with one of the two credits consumed -/
  | pos1 (e : Fin 3)
  /-- the right to pay duty `d` of semaphore `k` of the device across mask `m` -/
  | tok (m : Fin 8) (k : Cd) (d : Fin 3)
  /-- the promise that its semaphore `k` will be paid, at index `u` -/
  | crd (k : Cd) (u : Fin 2)
  /-- its semaphore `k` finished with, at zero -/
  | zero (k : Cd)
  /-- the right to write its partner's engine-`e` buffer in round `r` -/
  | wtok (e r : Fin 3)
  /-- its own buffer's count of releases -/
  | rdr (e : Fin 3) (n : Fin 4)
  /-- all three buffers of the device across mask `m` have been released `n` times -/
  | rel (m : Fin 8) (n : Fin 4)
  /-- engine `e`'s buffer of the device across mask `m` has been released `n` times -/
  | rel1 (m : Fin 8) (e : Fin 3) (n : Fin 4)
  /-- the staged arguments -/
  | ins
  /-- its own engine-`e` buffer, at any contents -/
  | buf (e : Fin 3)
  /-- its partner's buffer rows that message `(e, r, j)` will fill -/
  | hole (e r : Fin 3) (j : Fin 2)
  /-- its own buffer rows message `(e, r, j)` has filled -/
  | got (e r : Fin 3) (j : Fin 2)
  /-- those rows once read -/
  | gotU (e r : Fin 3) (j : Fin 2)
  /-- its partner's result rows that come with message `(e, r, j)` -/
  | perm (e r : Fin 3) (j : Fin 2)
  /-- all its partner's result rows of engine `e`'s round `k` -/
  | perms (e k : Fin 3)
  /-- the half of engine `e`'s rows it sends first (`b = 0`) or keeps (`b = 1`), at any contents -/
  | raw (e : Fin 3) (b : Fin 2)
  /-- the same between the two guarded products, one of which fills it -/
  | mid (e : Fin 3) (b : Fin 2)
  /-- result rows message `(e, r, j)` sends -/
  | y (e r : Fin 3) (j : Fin 2)
  /-- result rows message `(e, r, j)` will be added to -/
  | x0 (e r : Fin 3) (j : Fin 2)
  /-- those rows once added -/
  | x1 (e r : Fin 3) (j : Fin 2)
  /-- the rows it held before round `k`, all final -/
  | fin (e : Fin 3) (k : Fin 4)
  /-- the rows its partner of round `k` held after it, final -/
  | finO (e k : Fin 3)
  /-- the whole result, at any contents -/
  | outAny
  /-- the whole result, final -/
  | outFin
deriving DecidableEq

/-- The steps of a device's run: the kernel's effects, and the rearrangements between them. -/
inductive Stp where
  | start
  | close (e : Fin 3)
  | give (e : Fin 3) (n : Fin 3)
  | all (n : Fin 4)
  | sigBar (i : Fin 3)
  | wtBar
  | take (e r : Fin 3)
  | mmA (e : Fin 3) (b : Fin 2)
  | mmB (e : Fin 3) (b : Fin 2)
  | snd (e r : Fin 3) (j : Fin 2)
  | rcv (e r : Fin 3) (j : Fin 2)
  | acc (e r : Fin 3) (j : Fin 2)
  | wsn (e r : Fin 3) (j : Fin 2)
  | unite (e r : Fin 3)
  | adv (e r : Fin 3)
  | sgA (e : Fin 3)
  | sgB (e : Fin 3)
  | wtA (e : Fin 3)
  | wtB (e : Fin 3)
  | gsn (e k : Fin 3)
  | gwS (e k : Fin 3)
  | gwR (e k : Fin 3)
  | gj (e k : Fin 3)
  | done
deriving DecidableEq

/-- The masks of the three devices that signal the barrier. -/
def bmask : Fin 3 → Fin 8 | 0 => 1 | 1 => 3 | 2 => 4

/-- The exclusive or of two masks. -/
def xm (a b : Fin 8) : Fin 8 := ⟨(a.val ^^^ b.val) % 8, Nat.mod_lt _ (by decide)⟩

theorem xr_comp (a b : Fin 8) (c : Dev nD) : xr a (xr b c) = xr (xm a b) c := by revert a b c; decide +kernel
theorem xr_zero (c : Dev nD) : xr 0 c = c := by revert c; decide +kernel

/-- What a message of engine `e`'s round `r` passes on: which devices' buffers the sender knows released. -/
def kl : Fin 3 → Fin 3 → List (Fin 8)
  | 1, 1 => [3]
  | 2, 1 => [3, 4]
  | _, _ => []

/-- The next round. -/
def nx (r : Fin 3) : Fin 3 := ⟨(r.val + 1) % 3, Nat.mod_lt _ (by decide)⟩

/-- One more. -/
def up (r : Fin 3) : Fin 4 := ⟨r.val + 1, by omega⟩

/-- What a device must know to write its partner's buffer in round `r`. -/
def need (e : Fin 3) : Fin 3 → Atom
  | 0 => .rel (mk e 0) 1
  | 1 => .rel (mk e 1) 2
  | _ => .rel1 (mk e 2) e 3

/-- The messages of a round. -/
def msgs : Fin 3 → List (Fin 2) | 2 => [0] | _ => [0, 1]

/-- What a step uses. -/
def Stp.pre : Stp → List Atom
  | .start => [.outAny]
  | .close e => [.pos (.sS e 2 1), .pos (.sR e 2 1)]
  | .give e n => [.buf e, .rdr e n.castSucc]
  | .all n => [.rel1 0 0 n, .rel1 0 1 n, .rel1 0 2 n]
  | .sigBar i => [.tok (bmask i) .bar i, .rel 0 1]
  | .wtBar => [.pos .bar, .crd .bar 0]
  | .take e r => [.wtok e r, need e r]
  | .mmA e b => [.ins, .raw e b]
  | .mmB e b => [.ins, .mid e b]
  | .snd e r j => [.y e r j, .hole e r j, .tok 0 (.sS e r j) 0, .tok (mk e r) (.sR e r j) 0] ++ (kl e r).map (.rel · 2)
  | .rcv e r j => [.pos (.sR e r j), .crd (.sR e r j) 0]
  | .acc e r j => [.got e r j, .x0 e r j]
  | .wsn e r j => [.pos (.sS e r j), .crd (.sS e r j) 0]
  | .unite e r => (msgs r).map (.gotU e r ·)
  | .adv e r => (msgs r).map (.x1 e r ·) ++ (msgs r).map (.perm e r ·)
  | .sgA e => [.tok (mk e 1) (.cr e) 0, .rel 0 2]
  | .sgB e => [.tok (mk e 2) (.cr e) 1, .rel1 0 e 3, .rel (xm (mk e 1) (mk e 2)) 2]
  | .wtA e => [.pos (.cr e), .crd (.cr e) 0]
  | .wtB e => [.pos1 e, .crd (.cr e) 1]
  | .gsn e k => [.fin e (up k), .perms e k, .tok 0 (.gS e k) 0, .tok (mk e k) (.gR e k) 0]
  | .gwS e k => [.pos (.gS e k), .crd (.gS e k) 0]
  | .gwR e k => [.pos (.gR e k), .crd (.gR e k) 0]
  | .gj e k => [.fin e (up k), .finO e k]
  | .done => [.fin 0 0, .fin 1 0, .fin 2 0]

/-- What a step leaves. -/
def Stp.post : Stp → List Atom
  | .start => [.raw 0 0, .raw 0 1, .raw 1 0, .raw 1 1, .raw 2 0, .raw 2 1]
  | .close e => [.zero (.sS e 2 1), .zero (.sR e 2 1)]
  | .give e n => [.rdr e (up n), .rel1 0 e (up n)]
  | .all n => [.rel 0 n, .rel1 0 0 n, .rel1 0 1 n, .rel1 0 2 n]
  | .sigBar i => [.rel 0 1]
  | .wtBar => [.zero .bar, .rel 1 1, .rel 3 1, .rel 4 1]
  | .take e r => need e r :: (msgs r).map (.hole e r ·)
  | .mmA e b => [.ins, .mid e b]
  | .mmB e b => .ins :: (if b = 0 then [.y e 0 0, .y e 0 1] else [.x0 e 0 0, .x0 e 0 1])
  | .snd e r j => .crd (.sS e r j) 0 :: (kl e r).map (.rel · 2)
  | .rcv e r j => [.zero (.sR e r j), .got e r j, .perm e r j] ++ (kl e r).map fun m => .rel (xm m (mk e r)) 2
  | .acc e r j => [.gotU e r j, .x1 e r j]
  | .wsn e r j => [.zero (.sS e r j)]
  | .unite e r => [.buf e]
  | .adv e r => .perms e r :: (if r = 2 then [.fin e 3] else (msgs (nx r)).map (.y e (nx r) ·) ++ (msgs (nx r)).map (.x0 e (nx r) ·))
  | .sgA e => [.rel 0 2]
  | .sgB e => [.rel1 0 e 3, .rel (xm (mk e 1) (mk e 2)) 2]
  | .wtA e => [.pos1 e, .rel (mk e 1) 2]
  | .wtB e => [.zero (.cr e), .rel1 (mk e 2) e 3]
  | .gsn e k => [.crd (.gS e k) 0]
  | .gwS e k => [.zero (.gS e k), .fin e (up k)]
  | .gwR e k => [.zero (.gR e k), .finO e k]
  | .gj e k => [.fin e k.castSucc]
  | .done => [.outFin]

/-- What a step pays: across which mask, which semaphore, at which index. -/
def Stp.pay : Stp → Option (Fin 8 × Cd × Fin 2)
  | .sigBar i => some (bmask i, .bar, 0)
  | .snd e r j => some (mk e r, .sR e r j, 0)
  | .sgA e => some (mk e 1, .cr e, 0)
  | .sgB e => some (mk e 2, .cr e, 1)
  | .gsn e k => some (mk e k, .gR e k, 0)
  | _ => none

/-- What a step waits for. -/
def Stp.wts : Stp → Option (Cd × Fin 2)
  | .wtBar => some (.bar, 0)
  | .rcv e r j => some (.sR e r j, 0)
  | .wsn e r j => some (.sS e r j, 0)
  | .wtA e => some (.cr e, 0)
  | .wtB e => some (.cr e, 1)
  | .gwS e k => some (.gS e k, 0)
  | .gwR e k => some (.gR e k, 0)
  | _ => none

/-- The stage of the run at which a semaphore is paid: each is waited for only before everything still owed. -/
def lvl : Cd → ℕ → ℕ
  | .bar, _ => 1
  | .sR _ r _, _ => 2 + 2 * r.val
  | .cr _, u => 3 + 2 * u
  | .gR _ k, _ => 9 - k.val
  | _, _ => 0

abbrev pays (t : List Stp) : List (Fin 8 × Cd × Fin 2) := t.filterMap Stp.pay

/-- A step's wait, if it is one, is for something due before all the payments of `t`. -/
def okw (s : Stp) (t : List Stp) : Bool :=
  match s.wts with
  | none => true
  | some w => (pays t).all fun p => lvl w.1 w.2 < lvl p.2.1 p.2.2

/-- What a device ends with. -/
def ending : List Atom := [.outFin, .ins, .buf 0, .buf 1, .buf 2] ++ allCd.map .zero

/-- Whether `p` is part of `l`, counting repetitions. -/
def sub : List Atom → List Atom → Bool
  | [], _ => true
  | a :: p, l => l.elem a && sub p (l.erase a)

/-- Whether steps `t`, started from pieces `l`, find at each point what they use, and end with `ending`. -/
def run : List Stp → List Atom → Bool
  | [], l => sub ending l
  | s :: t, l => sub s.pre l && okw s t && run t (s.post ++ l.diff s.pre)

/-! ## The program, part by part -/

def q0 : List Stp := [.start, .give 0 0, .give 1 0, .give 2 0, .all 1, .close 0, .close 1, .close 2]
def q1 : List Stp := [.sigBar 0, .sigBar 1, .sigBar 2, .wtBar]
def q2 : List Stp := [.mmA 0 0]
def q3 : List Stp := [.mmB 0 0, .take 0 0, .snd 0 0 0, .snd 0 0 1]
def q4 : List Stp := [.mmA 1 0, .mmB 1 0, .take 1 0, .snd 1 0 0]
def q5 : List Stp := [.snd 1 0 1, .mmA 2 0, .mmB 2 0, .take 2 0, .snd 2 0 0]
def q6 : List Stp := [.snd 2 0 1, .mmA 0 1, .mmB 0 1, .mmA 1 1, .mmB 1 1, .mmA 2 1, .mmB 2 1, .rcv 0 0 0]
def q7 : List Stp := [.acc 0 0 0, .rcv 1 0 0, .acc 1 0 0]
def q8 : List Stp := [.rcv 2 0 0, .acc 2 0 0, .rcv 0 0 1, .acc 0 0 1]
def q9 : List Stp := [.rcv 1 0 1, .acc 1 0 1, .rcv 2 0 1, .acc 2 0 1]
def q10 : List Stp := [.unite 0 0, .unite 1 0, .unite 2 0, .give 0 1, .give 1 1, .give 2 1, .all 2, .adv 0 0, .adv 1 0, .adv 2 0,
  .wsn 0 0 0, .wsn 0 0 1, .sgA 0, .wsn 1 0 0]
def q11 : List Stp := [.wsn 1 0 1, .sgA 1, .wsn 2 0 0, .wsn 2 0 1, .sgA 2]
def q12 : List Stp := [.wtA 0, .take 0 1, .snd 0 1 0, .snd 0 1 1, .wtA 1]
def q13 : List Stp := [.take 1 1, .snd 1 1 0, .snd 1 1 1, .wtA 2]
def q14 : List Stp := [.take 2 1, .snd 2 1 0, .snd 2 1 1]
def q15 : List Stp := [.rcv 0 1 0, .acc 0 1 0, .rcv 1 1 0, .acc 1 1 0]
def q16 : List Stp := [.rcv 2 1 0, .acc 2 1 0, .rcv 0 1 1, .acc 0 1 1]
def q17 : List Stp := [.rcv 1 1 1, .acc 1 1 1, .rcv 2 1 1, .acc 2 1 1]
def q18 : List Stp := [.unite 0 1, .unite 1 1, .unite 2 1, .give 0 2, .give 1 2, .give 2 2, .adv 0 1, .adv 1 1, .adv 2 1,
  .wsn 0 1 0, .wsn 0 1 1, .sgB 0, .wsn 1 1 0]
def q19 : List Stp := [.wsn 1 1 1, .sgB 1, .wsn 2 1 0, .wsn 2 1 1]
def q20 : List Stp := [.sgB 2, .wtB 0, .take 0 2, .snd 0 2 0, .wtB 1]
def q21 : List Stp := [.take 1 2, .snd 1 2 0, .wtB 2, .take 2 2, .snd 2 2 0]
def q22 : List Stp := [.rcv 0 2 0, .acc 0 2 0, .rcv 1 2 0, .acc 1 2 0]
def q23 : List Stp := [.rcv 2 2 0, .acc 2 2 0, .wsn 0 2 0, .wsn 1 2 0]
def q24 : List Stp := [.wsn 2 2 0, .unite 0 2, .unite 1 2, .unite 2 2, .adv 0 2, .adv 1 2, .adv 2 2, .gsn 0 2, .gsn 1 2]
def q25 : List Stp := [.gsn 2 2, .gwS 0 2, .gwR 0 2, .gwS 1 2, .gwR 1 2]
def q26 : List Stp := [.gwS 2 2, .gwR 2 2, .gj 0 2, .gj 1 2, .gj 2 2, .gsn 0 1]
def q27 : List Stp := [.gsn 1 1, .gsn 2 1, .gwS 0 1, .gwR 0 1]
def q28 : List Stp := [.gwS 1 1, .gwR 1 1, .gwS 2 1, .gwR 2 1]
def q29 : List Stp := [.gj 0 1, .gj 1 1, .gj 2 1, .gsn 0 0, .gsn 1 0, .gsn 2 0, .gwS 0 0]
def q30 : List Stp := [.gwR 0 0, .gwS 1 0, .gwR 1 0, .gwS 2 0]
def q31 : List Stp := [.gwR 2 0, .gj 0 0, .gj 1 0, .gj 2 0, .done]

/-- The whole run. -/
def prog : List Stp :=
  q0 ++ (q1 ++ (q2 ++ (q3 ++ (q4 ++ (q5 ++ (q6 ++ (q7 ++ (q8 ++ (q9 ++ (q10 ++ (q11 ++ (q12 ++ (q13 ++ (q14 ++ (q15 ++
  (q16 ++ (q17 ++ (q18 ++ (q19 ++ (q20 ++ (q21 ++ (q22 ++ (q23 ++ (q24 ++ (q25 ++ (q26 ++ (q27 ++ (q28 ++ (q29 ++ (q30 ++
  q31))))))))))))))))))))))))))))))

/-- A payment, by the mask across which a device makes it. -/
def tokens : List (Fin 8 × Cd × Fin 3) :=
  [(1, .bar, 0), (3, .bar, 1), (4, .bar, 2), (3, .cr 0, 0), (4, .cr 0, 1), (4, .cr 1, 0), (1, .cr 1, 1), (1, .cr 2, 0), (3, .cr 2, 1)]
  ++ (List.finRange 3).flatMap fun e => (List.finRange 3).flatMap fun r =>
      (msgs r).flatMap (fun j => [((0 : Fin 8), Cd.sS e r j, (0 : Fin 3)), (mk e r, .sR e r j, 0)]) ++ [(0, .gS e r, 0), (mk e r, .gR e r, 0)]

/-- The payments promised to a device. -/
def promised : List (Cd × Fin 2) :=
  [(.bar, 0), (.cr 0, 0), (.cr 1, 0), (.cr 2, 0), (.cr 0, 1), (.cr 1, 1), (.cr 2, 1)]
  ++ (List.finRange 3).flatMap fun e => (List.finRange 3).flatMap fun r => (msgs r).map (fun j => (Cd.sR e r j, 0)) ++ [(.gR e r, 0)]

/-- What a device starts with. -/
def initial : List Atom :=
  [.outAny, .ins, .buf 0, .buf 1, .buf 2, .rdr 0 0, .rdr 1 0, .rdr 2 0]
  ++ (allCd.map .pos ++ (tokens.map (fun x => .tok x.1 x.2.1 x.2.2) ++ (promised.map (fun x => .crd x.1 x.2)
  ++ ((List.finRange 3).flatMap fun e => (List.finRange 3).map fun r => .wtok e r))))

set_option maxRecDepth 100000 in
theorem run_prog : run prog initial = true := by decide +kernel

end Cert.KernelIdeal.AR
-- ==== Proof.KernelIdealProto.lean ====
/-
The meaning of the plan: what the kernel computes row by row, what each piece of state is as a resource, the schedule
of payments with what each hands over, and the state of a device with the steps `t` still to take.
-/
module

public import proofs.«01_k».proof.Proof.KernelIdealRows
public import proofs.«01_k».proof.Proof.KernelIdealPlan

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Values -/

/-- The staged arguments of every device: its columns of `x`, its rows of `w`, the two scales. -/
structure In (F : FTy → Type) where
  x : Dev nD → S4096x512.Idx → Elt F .i8
  w : Dev nD → S512x2048.Idx → Elt F .i8
  s1 : Dev nD → S1.Idx → Elt F .f32
  s2 : Dev nD → S1.Idx → Elt F .f32

/-- The first (and only) element of a scale. -/
def z1 : S1.Idx := fun a => ⟨0, by fin_cases a; decide⟩

variable (I : In F)

/-- The product of the two scales. -/
def sc (d : Dev nD) : Elt F .f32 := k0_pay1 (I.s1 d z1) (I.s2 d z1)
/-- The weights as the product takes them. -/
def wt (d : Dev nD) : FVec F S512x2048 .bf16 := k0_pay2 (I.w d)

/-- A block of the product by row and column: rows from `a`, computed from the rows of `x` there. -/
def blkAt {n : ℕ} (hn : 0 < n) (pay : ((⟨2, ![n, 512]⟩ : Shape).Idx → Elt F .i8) → (Sh n).Idx → Elt F .f32) (a : ℕ)
    (inb : ∀ x, (![a, 0] : Fin 2 → ℕ) x + (⟨2, ![n, 512]⟩ : Shape).size x ≤ S4096x512.size x) (x : S4096x512.Idx → Elt F .i8) : Ct F :=
  fun row col => pay (fun i => x ((Rect.unit (s := S4096x512) ![a, 0] (⟨2, ![n, 512]⟩ : Shape).size inb).emb i)) (ix hn (row - a) col)

omit [FloatOps F] in
theorem blkAt_self {n : ℕ} (hn : 0 < n) (pay : ((⟨2, ![n, 512]⟩ : Shape).Idx → Elt F .i8) → (Sh n).Idx → Elt F .f32) (a : ℕ) (inb) (x : S4096x512.Idx → Elt F .i8)
    (i : (Sh n).Idx) : blkAt hn pay a inb x (a + (i 0).val) (i 1).val
      = pay (fun i => x ((Rect.unit (s := S4096x512) ![a, 0] (⟨2, ![n, 512]⟩ : Shape).size inb).emb i)) i := by
  unfold blkAt; rw [Nat.add_sub_cancel_left, ix_self]

/-- Engine `e`'s lower and upper half of device `d`'s scaled product. -/
def blk (d : Dev nD) : Fin 3 → Fin 2 → Ct F
  | 0, 0 => blkAt (n := 704) (by decide) (k0_pay4 (sc I d) (wt I d)) 0 inb_S4096x512_S704x512_0_0 (I.x d)
  | 0, 1 => blkAt (n := 704) (by decide) (k0_pay4 (sc I d) (wt I d)) 704 inb_S4096x512_S704x512_704_0 (I.x d)
  | 1, 0 => blkAt (n := 672) (by decide) (k0_pay5 (sc I d) (wt I d)) 1408 inb_S4096x512_S672x512_1408_0 (I.x d)
  | 1, 1 => blkAt (n := 672) (by decide) (k0_pay5 (sc I d) (wt I d)) 2080 inb_S4096x512_S672x512_2080_0 (I.x d)
  | 2, 0 => blkAt (n := 672) (by decide) (k0_pay5 (sc I d) (wt I d)) 2752 inb_S4096x512_S672x512_2752_0 (I.x d)
  | 2, 1 => blkAt (n := 672) (by decide) (k0_pay5 (sc I d) (wt I d)) 3424 inb_S4096x512_S672x512_3424_0 (I.x d)

/-- The half of its engine a row is in. -/
def hf (row : ℕ) : Fin 2 := if row < base (eng row) + Hn (eng row) 0 then 0 else 1

/-- Device `d`'s partial sums of a row before round `r`. -/
def Ac : ℕ → Dev nD → Ct F
  | 0, d => fun row col => blk I d (eng row) (hf row) row col
  | r + 1, d => fun row col => FloatOps.addf (Ac r d row col) (Ac r (xr (mk (eng row) ⟨r % 3, Nat.mod_lt _ (by decide)⟩) d) row col)

/-- The result by row and column: the sums of the device that ends up with the row. -/
def Fn : Ct F := fun row col => Ac I 3 (own row) row col

/-! ## Pieces of state -/

/-- The landing buffers and the result buffer. -/
def bM : (e : Fin 3) → Memref sig .tc .vmem (Sh (Hn e 0)) .f32
  | 0 => Memref.whole cc0_scratch0 | 1 => Memref.whole cc0_scratch1 | 2 => Memref.whole cc0_scratch2
abbrev oM : Memref sig .tc .vmem (Sh 4096) .f32 := Memref.whole cc0_stg4_0

/-- Rows of the landing buffer beyond a message's own that go along with it. -/
def jn (e r : Fin 3) (j : Fin 2) : ℕ := if r = 1 ∧ j = 1 then Hn e 0 - 2 * Qn e r else if r = 2 then Hn e 0 - Qn e r else 0

/-- Rows of engine `e` a device holds before round `k`. -/
def Wd (e : Fin 3) : Fin 4 → ℕ | 0 => 2 * Hn e 0 | 1 => Hn e 0 | 2 => Hn e 1 | 3 => Hn e 2

/-- Whether the half sent first (`b = 0`) or kept (`b = 1`) is the upper one. -/
def hb (c : Dev nD) (e : Fin 3) (b : Fin 2) : ℕ := if b = 0 then 1 - kb e 0 c else kb e 0 c

def relAll (n : ℕ) (d : Dev nD) : sProp 𝕄 := iprop(Release.released EL (d, (0 : Fin 3)) n ∗ Release.released EL (d, (1 : Fin 3)) n ∗ Release.released EL (d, (2 : Fin 3)) n)

instance relAll_pers (n : ℕ) (d : Dev nD) : BI.Persistent (relAll (F := F) n d) := by unfold relAll; infer_instance
instance relAll_stor (n : ℕ) (d : Dev nD) : BI.Storable (upEmb : UEmb _ 𝕄) (relAll (F := F) n d) := by unfold relAll; infer_instance

/-- A staged argument's buffer at its contents. -/
def arg {s : Shape} {e : EltTy} {μ : Space} (M : Memref sig .tc μ s e) (c : Dev nD) (v : s.Idx → Elt F e) : sProp 𝕄 :=
  iprop(∃ f : Buf (Elt F) (M.view.loc (c : Thread nD τ)), ⌜M.view.read (Elt F) f = v⌝ ∗ (M.view.loc (c : Thread nD τ) ↦{fullShare} f))

/-- What a promised payment comes to. -/
def camt : Cd → ℕ | .bar => 3 | k => amt k

/-- A piece of device `c`'s state. -/
def at' (c : Dev nD) : Atom → sProp 𝕄
  | .pos k => atPos ER (cell c k) 0 ∅ 0
  | .pos1 e => iprop(∃ S : Finset (Fin 3), atPos ER (cell c (.cr e)) 0 S 1 ∗ ⌜S ⊆ {0, 1}⌝ ∗ (⌜(1 : Fin 3) ∉ S⌝ ∨ Release.released EL (xr (mk e 2) c, e) 3))
  | .tok m k d => dutyTok ER (cell (xr m c) k) 0 d
  | .crd k u => cred (tallyAt (cell c k) u.val (camt k))
  | .zero k => semVal (cell c k) 0
  | .wtok e r => Release.writeTok EL (pt e r c, e) (r.val + 1)
  | .rdr e n => Release.readerAt EL (c, e) n.val
  | .rel m n => relAll n.val (xr m c)
  | .rel1 m e n => Release.released EL (xr m c, e) n.val
  | .ins => iprop(arg (Memref.whole cc0_stg0_0) c (I.x c) ∗ arg (Memref.whole cc0_stg1_0) c (I.w c) ∗ arg (Memref.whole cc0_stg2_0) c (I.s1 c) ∗ arg (Memref.whole cc0_stg3_0) c (I.s2 c))
  | .buf e => rowsAny (bM e) c 0 (Hn e 0)
  | .hole e r j => rowsAny (bM e) (pt e r c) (j.val * Qn e r) (Qn e r + jn e r j)
  | .got e r j => iprop(rows (bM e) c (j.val * Qn e r) (Qn e r) (fun i col => Ac I r.val (pt e r c) (Sr c e (r.val + 1) + i) col)
      ∗ rowsAny (bM e) c (j.val * Qn e r + Qn e r) (jn e r j))
  | .gotU e r j => rowsAny (bM e) c (j.val * Qn e r) (Qn e r + jn e r j)
  | .perm e r j => rowsAny oM (pt e r c) (Sr c e (r.val + 1) + j.val * Qn e r) (Qn e r)
  | .perms e k => rowsAny oM (pt e k c) (Sr c e (k.val + 1)) (Hn e k)
  | .raw e b => rowsAny oM c (base e + hb c e b * Hn e 0) (Hn e 0)
  | .mid e b => if hb c e b = 0 then rows oM c (base e + 0 * Hn e 0) (Hn e 0) (Ac I 0 c) else rowsAny oM c (base e + 1 * Hn e 0) (Hn e 0)
  | .y e r j => rows oM c (Tr c e r + j.val * Qn e r) (Qn e r) (Ac I r.val c)
  | .x0 e r j => rows oM c (Sr c e (r.val + 1) + j.val * Qn e r) (Qn e r) (Ac I r.val c)
  | .x1 e r j => rows oM c (Sr c e (r.val + 1) + j.val * Qn e r) (Qn e r) (Ac I (r.val + 1) c)
  | .fin e k => rows oM c (Sr c e k.val) (Wd e k) (Fn I)
  | .finO e k => rows oM c (Tr c e k) (Hn e k) (Fn I)
  | .outAny => rowsAny oM c 0 4096
  | .outFin => rows oM c 0 4096 (Fn I)

/-- Several pieces together. -/
def holds (c : Dev nD) : List Atom → sProp 𝕄
  | [] => iprop(emp)
  | a :: l => iprop(at' I c a ∗ holds c l)

/-! ## The schedule of payments -/

/-- The duties of a semaphore: the barrier has three payers, a credit semaphore two payments, a transfer's one. -/
def dts : Cd → Finset (Fin 3)
  | .bar => Finset.univ
  | .cr _ => {0, 1}
  | .sS _ r j => if r = 2 ∧ j = 1 then ∅ else {0}
  | .sR _ r j => if r = 2 ∧ j = 1 then ∅ else {0}
  | .gS _ _ => {0}
  | .gR _ _ => {0}

/-- What a payment hands the semaphore's device. -/
def hand : Cd → Fin 3 → List Atom
  | .bar, d => [.rel (bmask d) 1]
  | .cr e, d => if d = 0 then [.rel (mk e 1) 2] else [.rel (mk e 1) 2, .rel1 (mk e 2) e 3]
  | .sS _ _ _, _ => []
  | .sR e r j, _ => [.got e r j, .perm e r j] ++ (kl e r).map fun m => .rel (xm m (mk e r)) 2
  | .gS e k, _ => [.fin e (up k)]
  | .gR e k, _ => [.finO e k]

/-- The schedule: one round. -/
def Rd : Rounds.Schedule (GSem nD τ sig) (Fin 3) 𝕄 where
  duties g r := if r = 0 ∧ g.1.2 = .tc then (match kd g.2 with | some k => dts k | none => ∅) else ∅
  unitless _ := False
  amount g _ _ := match kd g.2 with | some k => amt k | none => 1
  payload g _ d := match kd g.2 with | some k => holds I g.1.1 (hand k d) | none => iprop(emp)
  amount_pos g _ _ _ := by
    cases kd g.2 with
    | none => exact Nat.one_pos
    | some k => exact amt_pos k

instance rel_stor (c : Dev nD) (l : List (Fin 8)) (f : Fin 8 → Fin 8) : BI.Storable (upEmb : UEmb _ 𝕄) (holds I c (l.map fun m => .rel (f m) 2)) := by
  induction l with
  | nil => rw [List.map_nil]; unfold holds; infer_instance
  | cons a l ih => rw [List.map_cons]; unfold holds at'; infer_instance

instance hand_stor (c : Dev nD) (k : Cd) (d : Fin 3) : BI.Storable (upEmb : UEmb _ 𝕄) (holds I c (hand k d)) := by
  cases k with
  | bar => dsimp only [hand, holds, at']; infer_instance
  | cr e => dsimp only [hand]; by_cases h : d = 0 <;> simp only [h, if_true, if_false] <;> dsimp only [holds, at'] <;> infer_instance
  | sS e r j => dsimp only [hand, holds, at']; infer_instance
  | sR e r j => dsimp only [hand, holds, at', List.cons_append, List.nil_append]; infer_instance
  | gS e k => dsimp only [hand, holds, at']; infer_instance
  | gR e k => dsimp only [hand, holds, at']; infer_instance

instance Rd_stor (g : GSem nD τ sig) (r : ℕ) (d : Fin 3) : BI.Storable (upEmb : UEmb _ 𝕄) ((Rd I).payload g r d) := by
  show BI.Storable upEmb (match kd g.2 with | some k => holds I g.1.1 (hand k d) | none => iprop(emp))
  split <;> infer_instance

theorem Rd_duties (c : Dev nD) (k : Cd) : (Rd I).duties (cell c k) 0 = dts k := by
  dsimp only [Rd]; rw [if_pos ⟨rfl, rfl⟩, kd_loc]
theorem Rd_later (g : GSem nD τ sig) : ∀ r, 1 ≤ r → (Rd I).duties g r = ∅ := fun r hr => by
  dsimp only [Rd]; exact if_neg fun h => by omega
theorem Rd_amount (c : Dev nD) (k : Cd) (r : ℕ) (d : Fin 3) : (Rd I).amount (cell c k) r d = amt k := by
  dsimp only [Rd]; rw [kd_loc]
theorem Rd_payload (c : Dev nD) (k : Cd) (r : ℕ) (d : Fin 3) : (Rd I).payload (cell c k) r d = holds I c (hand k d) := by
  dsimp only [Rd]; rw [kd_loc]
theorem Rd_expect (c : Dev nD) (k : Cd) : (Rd I).expect (cell c k) 0 = (dts k).card * amt k := by
  unfold Schedule.expect Schedule.amountOf
  rw [Rd_duties, Finset.sum_congr rfl fun d _ => Rd_amount I c k 0 d, Finset.sum_const, smul_eq_mul]

/-! ## Owing, levels, and the state with steps `t` to take -/

/-- What a device owes when payments `p` remain. -/
def Osum (c : Dev nD) : List (Fin 8 × Cd × Fin 2) → CellTallies nD τ sig ℕ
  | [] => 0
  | p :: l => Osum c l + tallyAt (cell (xr p.1 c) p.2.1) p.2.2.val (amt p.2.1)

def L (g : GSem nD τ sig) : Finset ℕ := if g.1.2 = .tc then {0, 1} else ∅
def lv (g : GSem nD τ sig) (u : ℕ) : ℕ := match kd g.2 with | some k => lvl k u | none => 0

theorem mem_L (c : Dev nD) (s : SemLoc sig) (u : Fin 2) : u.val ∈ L ((c : Thread nD τ), s) := by
  unfold L; rw [if_pos rfl]; revert u; decide
theorem lv_cell (c : Dev nD) (k : Cd) (u : ℕ) : lv (cell c k) u = lvl k u := by unfold lv; rw [kd_loc]

theorem Osum_pos (c : Dev nD) {l : List (Fin 8 × Cd × Fin 2)} {g : GSem nD τ sig} {u : ℕ} (h : 0 < Osum c l g u) :
    ∃ p ∈ l, g = cell (xr p.1 c) p.2.1 ∧ u = p.2.2.val := by
  induction l with
  | nil => exact absurd h (Nat.lt_irrefl 0)
  | cons p l ih =>
    unfold Osum at h
    rw [Pi.add_apply, Finsupp.add_apply, tallyAt_apply] at h
    by_cases hp : g = cell (xr p.1 c) p.2.1 ∧ u = p.2.2.val
    · exact ⟨p, List.mem_cons_self, hp⟩
    · rw [if_neg hp] at h
      obtain ⟨q, hq, hg⟩ := ih h
      exact ⟨q, List.mem_cons_of_mem _ hq, hg⟩

/-- A wait for something due before all the remaining payments is allowed. -/
theorem mayWait (c : Dev nD) {s : Stp} {t : List Stp} {k : Cd} {u : Fin 2} (hs : s.wts = some (k, u)) (hok : okw s t = true) :
    (levAts L lv : sProp 𝕄) ⊢ MayWait (c : Thread nD τ) (loc k) u.val (Osum c (pays t)) := by
  unfold okw at hok
  rw [hs] at hok
  simp only [List.all_eq_true, decide_eq_true_eq] at hok
  exact MayOwe.of_cut (L := L) (lev := lv) (lvl k u.val)
    (fun p hp => by rw [Finset.mem_singleton.mp hp]; exact mem_L c _ u)
    (fun g v hg => by obtain ⟨p, -, rfl, rfl⟩ := Osum_pos c hg; exact mem_L _ _ _)
    (fun p hp => by rw [Finset.mem_singleton.mp hp]; exact Nat.le_of_eq (lv_cell c k _))
    (fun g v hg => by obtain ⟨p, hp, rfl, rfl⟩ := Osum_pos c hg; rw [lv_cell]; exact hok p hp)

/-- The record of what is lasting: every semaphore's invariant, every landing buffer's, the levels. -/
def Env (K : Dev nD × Cd → ℕ) (N : Dev nD × Fin 3 → ℕ) : sProp 𝕄 :=
  iprop(bigSep Finset.univ (fun x : Dev nD × Cd => iprop(cellInv ER (Rd I) (K x) (cell x.1 x.2) ∗ reached ER (cell x.1 x.2) 0))
    ∗ bigSep Finset.univ (fun x : Dev nD × Fin 3 => Release.slotInv EL (N x) x (rowsAny (F := F) (bM x.2) x.1 0 (Hn x.2 0)))
    ∗ levAts L lv)

instance Env_pers (K : Dev nD × Cd → ℕ) (N : Dev nD × Fin 3 → ℕ) : BI.Persistent (Env I K N) := by unfold Env; infer_instance

theorem env_cell (K : Dev nD × Cd → ℕ) (N : Dev nD × Fin 3 → ℕ) (c : Dev nD) (k : Cd) :
    Env I K N ⊢ iprop(cellInv ER (Rd I) (K (c, k)) (cell c k) ∗ reached ER (cell c k) 0) := by
  unfold Env
  iintro ⟨H, -, -⟩
  have h : (bigSep Finset.univ (fun x : Dev nD × Cd => iprop(cellInv ER (Rd I) (K x) (cell x.1 x.2) ∗ reached ER (cell x.1 x.2) 0)) : sProp 𝕄)
      ⊢ iprop(cellInv ER (Rd I) (K (c, k)) (cell c k) ∗ reached ER (cell c k) 0) := bigSep_elim (Finset.mem_univ (c, k))
  iapply h; iexact H

theorem env_slot (K : Dev nD × Cd → ℕ) (N : Dev nD × Fin 3 → ℕ) (c : Dev nD) (e : Fin 3) :
    Env I K N ⊢ Release.slotInv EL (N (c, e)) (c, e) (rowsAny (F := F) (bM e) c 0 (Hn e 0)) := by
  unfold Env
  iintro ⟨-, H, -⟩
  have h : (bigSep Finset.univ (fun x : Dev nD × Fin 3 => Release.slotInv EL (N x) x (rowsAny (F := F) (bM x.2) x.1 0 (Hn x.2 0))) : sProp 𝕄)
      ⊢ Release.slotInv EL (N (c, e)) (c, e) (rowsAny (F := F) (bM e) c 0 (Hn e 0)) := bigSep_elim (Finset.mem_univ (c, e))
  iapply h; iexact H

theorem env_lev (K : Dev nD × Cd → ℕ) (N : Dev nD × Fin 3 → ℕ) : Env I K N ⊢ levAts L lv := by
  unfold Env; iintro ⟨-, -, H⟩; iexact H

def ow (c : Dev nD) (l : List (Fin 8 × Cd × Fin 2)) : sProp 𝕄 := iprop(∃ W, owes (c : Thread nD τ) (Osum c l) W)

/-- Device `c`'s state with steps `t` to take: pieces from which those steps run, and what they will pay owed. -/
def Hold (K : Dev nD × Cd → ℕ) (N : Dev nD × Fin 3 → ℕ) (c : Dev nD) (t : List Stp) : sProp 𝕄 :=
  iprop(Env I K N ∗ ∃ l : List Atom, ⌜run t l = true⌝ ∗ ow c (pays t) ∗ holds I c l)

/-! ## Rearranging pieces -/

theorem holds_append (c : Dev nD) (l l' : List Atom) : holds I c (l ++ l') ⊣⊢ (iprop(holds I c l ∗ holds I c l') : sProp 𝕄) := by
  induction l with
  | nil => constructor
           · unfold holds; iintro H; isplitr; · iempintro
             iexact H
           · iintro ⟨-, H⟩; iexact H
  | cons a l ih =>
    constructor
    · show iprop(at' I c a ∗ holds I c (l ++ l')) ⊢ iprop((at' I c a ∗ holds I c l) ∗ holds I c l')
      iintro ⟨H, H'⟩
      ihave H2 := ih.1 $$ H'
      icases H2 with ⟨H2, H3⟩
      isplitr [H3]
      · isplitl [H] <;> iassumption
      · iexact H3
    · show iprop((at' I c a ∗ holds I c l) ∗ holds I c l') ⊢ iprop(at' I c a ∗ holds I c (l ++ l'))
      iintro ⟨⟨H, H'⟩, H2⟩
      isplitl [H]; · iexact H
      iapply ih.2
      isplitl [H'] <;> iassumption

theorem holds_perm (c : Dev nD) {l l' : List Atom} (h : l.Perm l') : holds I c l ⊢ (holds I c l' : sProp 𝕄) := by
  induction h with
  | nil => exact .rfl
  | cons a _ ih =>
    show iprop(at' I c a ∗ holds I c _) ⊢ iprop(at' I c a ∗ holds I c _)
    iintro ⟨H, H'⟩
    isplitl [H]; · iexact H
    iapply ih; iexact H'
  | swap a b l =>
    show iprop(at' I c b ∗ at' I c a ∗ holds I c l) ⊢ iprop(at' I c a ∗ at' I c b ∗ holds I c l)
    iintro ⟨H, H', H2⟩
    isplitl [H']; · iexact H'
    isplitl [H] <;> iassumption
  | trans _ _ ih1 ih2 => exact ih1.trans ih2

theorem sub_perm {p l : List Atom} (h : sub p l = true) : l.Perm (p ++ l.diff p) := by
  induction p generalizing l with
  | nil => rw [List.diff_nil]; exact List.Perm.refl _
  | cons a p ih =>
    unfold sub at h
    rw [Bool.and_eq_true] at h
    have ha : a ∈ l := List.elem_iff.mp h.1
    rw [List.diff_cons]
    exact (List.perm_cons_erase ha).trans (List.Perm.cons a (ih h.2))

theorem holds_take (c : Dev nD) {p l : List Atom} (h : sub p l = true) : holds I c l ⊢ (iprop(holds I c p ∗ holds I c (l.diff p)) : sProp 𝕄) :=
  (holds_perm I c (sub_perm h)).trans (holds_append I c _ _).1

/-- What a device ends with, out of the state with no steps to take. -/
theorem hold_nil (K : Dev nD × Cd → ℕ) (N : Dev nD × Fin 3 → ℕ) (c : Dev nD) :
    Hold I K N c [] ⊢ (iprop(ow c [] ∗ holds I c ending) : sProp 𝕄) := by
  unfold Hold
  iintro ⟨-, %l, %hl, H, H'⟩
  isplitl [H]; · iexact H
  ihave H2 := (holds_take I c (p := ending) hl) $$ H'
  icases H2 with ⟨H2, -⟩
  iexact H2

/-- One step: from what it uses and what is owed, to what it leaves and what is owed after. -/
theorem hold_step (K : Dev nD × Cd → ℕ) (N : Dev nD × Fin 3 → ℕ) (c : Dev nD) (s : Stp) (t : List Stp) {X Y : sProp 𝕄}
    (h : okw s t = true → iprop(Env I K N ∗ ow c (pays (s :: t)) ∗ holds I c s.pre) ⊢ iprop((ow c (pays t) ∗ holds I c s.post -∗ X) -∗ Y)) :
    Hold I K N c (s :: t) ⊢ iprop((Hold I K N c t -∗ X) -∗ Y) := by
  unfold Hold
  iintro ⟨#HE, %l, %hl, H, H'⟩ Hk
  unfold run at hl
  simp only [Bool.and_eq_true] at hl
  ihave H2 := (holds_take I c (p := s.pre) hl.1.1) $$ H'
  icases H2 with ⟨H2, H3⟩
  iapply (h hl.1.2) $$ [H H2]
  · isplitr; · iexact HE
    isplitl [H] <;> iassumption
  iintro ⟨H4, H5⟩
  iapply Hk
  isplitr; · iexact HE
  iexists _
  isplitr; · ipureintro; exact hl.2
  isplitl [H4]; · iexact H4
  iapply (holds_append I c _ _).2
  isplitl [H5] <;> iassumption

end Cert.KernelIdeal.AR

end
-- ==== Proof.KernelIdealSteps.lean ====
/-
The steps of a device's run: from the state with a step still to take, through the kernel's effect that takes it, to
the state without it.
-/
module

public import proofs.«01_k».proof.Proof.KernelIdealProto

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A program of a device. -/
abbrev Pg (F : FTy → Type) (α : Type) : Type 1 := Prog (TpuEff nD τ sig (Elt F) Λ₀ .tc) α

/-- That program `p`, run by device `c`, is safe and ends with `Q`. -/
abbrev wpc {α : Type} (c : Dev nD) (p : Pg F α) (Q : α → sProp 𝕄) : sProp 𝕄 :=
  wp frame (wpE (defs₀ (F := F)) 𝒱₀ (c : Thread nD τ) none) Set.univ p Q

variable (I : In F) (K : Dev nD × Cd → ℕ) (N : Dev nD × Fin 3 → ℕ) (c : Dev nD)

theorem holds_cons (a : Atom) (l : List Atom) : iprop(at' I c a ∗ holds I c l) ⊢ (holds I c (a :: l) : sProp 𝕄) := .rfl

theorem at_zero (k : Cd) : semVal (cell c k) 0 ⊢ (at' I c (.zero k) : sProp 𝕄) := .rfl

theorem ow_cons (m : Fin 8) (k : Cd) (u : Fin 2) (t : List (Fin 8 × Cd × Fin 2)) :
    (ow c ((m, k, u) :: t) : sProp 𝕄) = iprop(∃ W, owes (c : Thread nD τ) (Osum c t + tallyAt (cell (xr m c) k) u.val (amt k)) W) := rfl

theorem pays_some {s : Stp} {p : Fin 8 × Cd × Fin 2} (h : s.pay = some p) (t : List Stp) : pays (s :: t) = p :: pays t := List.filterMap_cons_some h
theorem pays_none {s : Stp} (h : s.pay = none) (t : List Stp) : pays (s :: t) = pays t := List.filterMap_cons_none h

section
variable {t : List Stp}

/-- A rearrangement, which the program does not see. -/
theorem st_ghost {α : Type} {Q : α → sProp 𝕄} (s : Stp) (hp : s.pay = none) (hg : iprop(Env I K N ∗ holds I c s.pre) ⊢ (|={Set.univ}=> holds I c s.post : sProp 𝕄))
    {p : Pg F α} (hk : Hold I K N c t ⊢ wpc c p Q) : Hold I K N c (s :: t) ⊢ wpc c p Q := by
  have h := hold_step I K N c s t (X := wpc c p Q) (Y := wpc c p Q) fun _ => by
    rw [pays_none hp]
    iintro ⟨HE, Ho, Hp⟩ Hk
    imod hg $$ [HE Hp] with Hq
    · isplitl [HE] <;> iassumption
    iapply Hk
    isplitl [Ho] <;> iassumption
  iintro H
  iapply h $$ H
  iintro H
  iapply hk; iexact H

/-- A step that owes and pays nothing and waits for nothing: an effect on memory. -/
theorem st_local (s : Stp) (hp : s.pay = none) {X Y : sProp 𝕄} (hg : holds I c s.pre ⊢ iprop((holds I c s.post -∗ X) -∗ Y))
    (hk : Hold I K N c t ⊢ X) : Hold I K N c (s :: t) ⊢ Y := by
  have h := hold_step I K N c s t (X := X) (Y := Y) fun _ => by
    rw [pays_none hp]
    iintro ⟨-, Ho, Hp⟩ Hk
    iapply hg $$ Hp
    iintro Hq
    iapply Hk
    isplitl [Ho] <;> iassumption
  iintro H
  iapply h $$ H
  iintro H
  iapply hk; iexact H

/-- A signal: duty `d` of semaphore `k` across mask `m`, handing over lasting facts. -/
theorem st_signal {α : Type} {Q : α → sProp 𝕄} (s : Stp) (m : Fin 8) (k : Cd) (u : Fin 2) (d : Fin 3) (fs : List Atom) (hpay : s.pay = some (m, k, u))
    (hpre : s.pre = .tok m k d :: fs) (hpost : s.post = fs) (hd : d ∈ dts k) (ha : amt k = 1)
    (hf : holds I c fs ⊢ (iprop(holds I c fs ∗ holds I (xr m c) (hand k d)) : sProp 𝕄))
    {dev : Dev nD} (hdev : dev = xr m c) {sem : Sem sig} (hsem : loc k = .reg sem) {kk : PUnit → Pg F α}
    (hk : Hold I K N c t ⊢ wpc c (kk ⟨⟩) Q) :
    Hold I K N c (s :: t) ⊢ wpc c (.op (.semSignal (dev, Proc.tc) sem (1#32).toInt) kk) Q := by
  subst hdev
  have h := hold_step I K N c s t (X := wpc c (kk ⟨⟩) Q) (Y := wpc c (.op (.semSignal (xr m c, Proc.tc) sem (1#32).toInt) kk) Q) fun _ => by
    rw [pays_some hpay, hpre, hpost, ow_cons]
    show iprop(Env I K N ∗ (∃ W, owes (c : Thread nD τ) (Osum c (pays t) + tallyAt (cell (xr m c) k) u.val (amt k)) W) ∗ dutyTok ER (cell (xr m c) k) 0 d ∗ holds I c fs) ⊢ _
    iintro ⟨#HE, ⟨%W, HO⟩, Ht, Hf⟩ Hk
    ihave HE' := (env_cell I K N (xr m c) k) $$ HE
    icases HE' with ⟨Hi, Hr⟩
    ihave Hf' := hf $$ Hf
    icases Hf' with ⟨Hf, Hd⟩
    have hd' : d ∈ (Rd I).duties (cell (xr m c) k) 0 := by rw [Rd_duties]; exact hd
    have ha' : (Rd I).amount (cell (xr m c) k) 0 d = 1 := (Rd_amount I (xr m c) k 0 d).trans ha
    have hP := Rd_payload I (xr m c) k 0 d
    rw [ha]
    dsimp only [cell] at hd' ha' hP ⊢
    rw [hsem] at hd' ha' hP ⊢
    iapply (Rounds.wp_signal 𝒱₀ ER (Rd I) (c : Thread nD τ) none (dst := (xr m c : Thread nD τ)) (κ := K (xr m c, k)) (d := d) hd' ha' u.val (Osum c (pays t)) rfl) $$ [Hi HO Ht Hd Hr]
    · isplitl [Hi]; · iexact Hi
      isplitl [HO]; · iexact HO
      isplitl [Ht]; · iexact Ht
      isplitl [Hd]; · rw [hP]; iexact Hd
      iexact Hr
    iintro HO
    iapply Hk
    isplitl [HO]; · unfold ow; iexists W; iexact HO
    iexact Hf
  iintro H
  iapply h $$ H
  iintro H
  iapply hk; iexact H

/-- A wait for all of a semaphore's payments, after which it is finished with. -/
theorem st_wait {α : Type} {Q : α → sProp 𝕄} (s : Stp) (k : Cd) (hwts : s.wts = some (k, 0)) (hpay : s.pay = none) (hpre : s.pre = [.pos k, .crd k 0])
    (rest : List Atom) (hpost : s.post = .zero k :: rest) (hrest : bigSep (dts k) (fun d => holds I c (hand k d)) ⊢ (holds I c rest : sProp 𝕄))
    (hcamt : camt k = (dts k).card * amt k)
    {w : TpuEff nD τ sig (Elt F) Λ₀ .tc PUnit} {sm : SemLoc sig} (hsm : loc k = sm) {n : ℕ} (hn : n = camt k)
    (hw : ∀ Kt : PUnit → sProp 𝕄, wpE (defs₀ (F := F)) 𝒱₀ (c : Thread nD τ) none Set.univ w Kt = waitSpec (c : Thread nD τ) Set.univ sm n Kt)
    {kk : PUnit → Pg F α} (hk : Hold I K N c t ⊢ wpc c (kk ⟨⟩) Q) :
    Hold I K N c (s :: t) ⊢ wpc c (.op w kk) Q := by
  subst hsm hn
  have h := hold_step I K N c s t (X := wpc c (kk ⟨⟩) Q) (Y := wpc c (.op w kk) Q) fun hok => by
    rw [pays_none hpay, hpre, hpost]
    show iprop(Env I K N ∗ (∃ W, owes (c : Thread nD τ) (Osum c (pays t)) W) ∗ atPos ER (cell c k) 0 ∅ 0 ∗ cred (tallyAt (cell c k) (0 : Fin 2).val (camt k)) ∗ emp) ⊢ _
    iintro ⟨#HE, ⟨%W, HO⟩, Hat, Hc, -⟩ Hk
    ihave HE' := (env_cell I K N c k) $$ HE
    icases HE' with ⟨#Hi, -⟩
    iapply (Rounds.wp_wait_rest_token 𝒱₀ ER (Rd I) (c : Thread nD τ) none (κ := K (c, k)) hw (Set.mem_univ _) (0 : Fin 2).val (O := Osum c (pays t)) (W := W) (R := 0) (m := 0) (T := ∅)
      (by rw [Nat.zero_add, hcamt]; exact (Rd_expect I c k).symm)) $$ [HO Hat Hc]
    · isplitr; · iexact Hi
      isplitl [Hc]; · iexact Hc
      isplitl [HO]; · iexact HO
      isplitr; · iapply (mayWait c hwts hok); iapply (env_lev I K N); iexact HE
      iexact Hat
    iintro ⟨HO, Hat, -, Hp⟩
    imod (Rounds.cell_close ER (Rd I) (Set.mem_univ (K (c, k))) (fun h => h) (R := 0 + 1) (Rd_later I (cell c k))) $$ [Hat] with Hz
    · isplitr; · iexact Hi
      iexact Hat
    iapply Hk
    isplitl [HO]; · unfold ow; iexists _; iexact HO
    iapply (holds_cons I c (.zero k) rest)
    isplitl [Hz]; · iapply (at_zero I c k); iexact Hz
    iapply hrest
    rw [Finset.sdiff_empty, Rd_duties]
    rw [bigSep_congr fun d _ => (Rd_payload I c k 0 d).symm]
    iexact Hp
  iintro H
  iapply h $$ H
  iintro H
  iapply hk; iexact H

end

/-! ## Transfers -/

section Views
variable {h : ℕ} (M : Memref sig .tc .vmem (Sh h) .f32) (c : Dev nD) {n a : ℕ} {off : Fin 2 → ℕ} (hoff : off = ![a, 0])
  (inb : ∀ x, off x + (Sh n).size x ≤ (Sh h).size x)

/-- A range of rows as the memref the kernel takes of it. -/
abbrev slc (hst : ∀ x, (Rect.unit (s := Sh h) off (Sh n).size inb).stride x = 1) : Memref sig .tc .vmem (Sh n) .f32 :=
  M.slice (Rect.unit (s := Sh h) off (Sh n).size inb) hst

variable (hst : ∀ x, (Rect.unit (s := Sh h) off (Sh n).size inb).stride x = 1)

theorem any_rows {h : ℕ} (M : Memref sig .tc .vmem (Sh h) .f32) (c : Dev nD) (a n : ℕ) :
    rowsAny M c a n ⊢ (iprop(∃ A : Ct F, rows M c a n A) : sProp 𝕄) := .rfl

include hoff in
theorem rows_view (A : Ct F) : rows M c a n A ⊢ (iprop(∃ f : Buf (Elt F) ((slc M inb hst).view.loc (c : Thread nD τ)),
    ⌜∀ i : (Sh n).Idx, (slc M inb hst).view.read (Elt F) f i = A (a + (i 0).val) (i 1).val⌝
    ∗ ((slc M inb hst).view.loc (c : Thread nD τ) ↦[(slc M inb hst).view.set]{fullShare} f)) : sProp 𝕄) := by
  unfold rows
  iintro ⟨%f, %hf, H⟩
  iexists f
  isplitr
  · ipureintro
    intro i
    have ho := off_row (h := h) (n := n) hoff inb i
    have hi : (i 0).val < n := (i 0).isLt
    refine (hf ((Rect.unit (s := Sh h) off (Sh n).size inb).emb i) (by omega) (by omega)).trans ?_
    rw [ho.1, ho.2]
  have hs : (slc M inb hst).view.set = rset M a n := access_set M hoff inb
  rw [hs]
  iexact H

include hoff in
theorem view_rows (A : Ct F) (f : Buf (Elt F) ((slc M inb hst).view.loc (c : Thread nD τ)))
    (hf : ∀ i : (Sh n).Idx, (slc M inb hst).view.read (Elt F) f i = A (a + (i 0).val) (i 1).val) :
    ((slc M inb hst).view.loc (c : Thread nD τ) ↦[(slc M inb hst).view.set]{fullShare} f) ⊢ (rows M c a n A : sProp 𝕄) := by
  have hs : (slc M inb hst).view.set = rset M a n := access_set M hoff inb
  rw [hs]
  unfold rows
  iintro H
  iexists f
  isplitr
  · ipureintro
    intro i h1 h2
    have hi : M.view.emb i ∈ (slc M inb hst).view.set := by rw [hs]; exact (mem_rset M).mpr ⟨h1, h2⟩
    obtain ⟨j, -, hj⟩ := Finset.mem_map.mp hi
    obtain rfl : (Rect.unit (s := Sh h) off (Sh n).size inb).emb j = i := M.view.emb.injective hj
    have ho := off_row (h := h) (n := n) hoff inb j
    rw [ho.1, ho.2]
    exact hf j
  iexact H

end Views

end Cert.KernelIdeal.AR

end
-- ==== Proof.KernelIdealSends.lean ====
/-
The transfers: sending a reduce-scatter message and an all-gather message.
-/
module

public import proofs.«01_k».proof.Proof.KernelIdealSteps

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : In F) (K : Dev nD × Cd → ℕ) (N : Dev nD × Fin 3 → ℕ) (c : Dev nD)

section Sends
variable {t : List Stp}

/-- That memref `src` is the rows `[a, a + n)` of `M`, to device `c`. -/
def IsRows {h n : ℕ} (M : Memref sig .tc .vmem (Sh h) .f32) (c : Dev nD) (src : Memref sig .tc .vmem (Sh n) .f32) (a : ℕ) : Prop :=
  ∀ A : Ct F, (rows M c a n A ⊢ (iprop(∃ f : Buf (Elt F) (src.view.loc (c : Thread nD τ)),
      ⌜∀ i : (Sh n).Idx, src.view.read (Elt F) f i = A (a + (i 0).val) (i 1).val⌝
      ∗ (src.view.loc (c : Thread nD τ) ↦[src.view.set]{fullShare} f)) : sProp 𝕄))
    ∧ ∀ f : Buf (Elt F) (src.view.loc (c : Thread nD τ)), (∀ i : (Sh n).Idx, src.view.read (Elt F) f i = A (a + (i 0).val) (i 1).val) →
      ((src.view.loc (c : Thread nD τ) ↦[src.view.set]{fullShare} f) ⊢ (rows M c a n A : sProp 𝕄))

theorem isRows_slc {h n a : ℕ} (M : Memref sig .tc .vmem (Sh h) .f32) (c : Dev nD) {off : Fin 2 → ℕ} (hoff : off = ![a, 0])
    (inb : ∀ x, off x + (Sh n).size x ≤ (Sh h).size x) (hst) : IsRows (F := F) M c (slc M inb hst) a :=
  fun A => ⟨rows_view M c hoff inb hst A, fun f hf => view_rows M c hoff inb hst A f hf⟩

theorem facts_across (m₀ : Fin 8) (l : List (Fin 8)) :
    holds I c (l.map fun m => .rel m 2) ⊢ (holds I (xr m₀ c) (l.map fun m => .rel (xm m m₀) 2) : sProp 𝕄) := by
  induction l with
  | nil => exact .rfl
  | cons a l ih =>
    have h1 : (at' I (xr m₀ c) (.rel (xm a m₀) 2) : sProp 𝕄) = at' I c (.rel a 2) := by
      show relAll _ (xr (xm a m₀) (xr m₀ c)) = relAll _ (xr a c)
      rw [← xr_comp, xr_xr]
    rw [List.map_cons, List.map_cons]
    unfold holds
    rw [h1]
    iintro ⟨H, H'⟩
    isplitl [H]; · iexact H
    iapply ih; iexact H'

theorem facts_pers (l : List (Fin 8)) (f : Fin 8 → Fin 8) (n : Fin 4) : BI.Persistent (holds I c (l.map fun m => .rel (f m) n) : sProp 𝕄) := by
  induction l with
  | nil => rw [List.map_nil]; unfold holds; infer_instance
  | cons a l ih => rw [List.map_cons]; unfold holds at'; infer_instance

/-- A reduce-scatter message: the rows it carries land in the partner's buffer, and the partner gets them, the rows they
    came from, and the facts passed on. -/
theorem st_snd {α : Type} {Q : α → sProp 𝕄} (e r : Fin 3) (j : Fin 2) (hrj : ¬(r = 2 ∧ j = 1)) {n : ℕ} (hn : n = Qn e r)
    {dev : Dev nD} (hdev : dev = pt e r c)
    {src dst : Memref sig .tc .vmem (Sh n) .f32}
    (hsr : IsRows (F := F) oM c src (Tr c e r + j.val * Qn e r)) (hds : IsRows (F := F) (bM e) (pt e r c) dst (j.val * Qn e r))
    {sS sR : DmaSem sig} (hS : loc (.sS e r j) = .dma sS) (hR : loc (.sR e r j) = .dma sR)
    (hN : dst.view.amount (.dma sR) = RefSig.tileCredit (Sh (Qn e r)) .f32)
    {hsc hsrc hdst hsem} {kk : PUnit → Pg F α} (hk : Hold I K N c t ⊢ wpc c (kk ⟨⟩) Q) :
    Hold I K N c (.snd e r j :: t)
      ⊢ wpc c (.op (.enqueueDma src (.remote (Dev.tc dev) dst (.dma sS) hsc) (.dma sR) hsrc hdst hsem) kk) Q := by
  subst hn hdev
  have h := hold_step I K N c (.snd e r j) t (X := wpc c (kk ⟨⟩) Q)
    (Y := wpc c (.op (.enqueueDma src (.remote (Dev.tc (pt e r c)) dst (.dma sS) hsc) (.dma sR) hsrc hdst hsem) kk) Q) fun _ => by
    rw [pays_some (s := .snd e r j) rfl, ow_cons]
    show iprop(Env I K N ∗ (∃ W, owes (c : Thread nD τ) (Osum c (pays t) + tallyAt (cell (pt e r c) (.sR e r j)) (0 : Fin 2).val (amt (.sR e r j))) W)
      ∗ (rows oM c (Tr c e r + j.val * Qn e r) (Qn e r) (Ac I r.val c) ∗ rowsAny (bM e) (pt e r c) (j.val * Qn e r) (Qn e r + jn e r j)
        ∗ dutyTok ER (cell (xr 0 c) (.sS e r j)) 0 0 ∗ dutyTok ER (cell (pt e r c) (.sR e r j)) 0 0 ∗ holds I c ((kl e r).map fun m => .rel m 2)))
      ⊢ iprop((ow c (pays t) ∗ (cred (tallyAt (cell c (.sS e r j)) (0 : Fin 2).val (amt (.sS e r j))) ∗ holds I c ((kl e r).map fun m => .rel m 2)) -∗ _) -∗ _)
    rw [xr_zero]
    iintro ⟨#HE, ⟨%W, HO⟩, Hy, Hh, HtS, HtR, Hf⟩ Hk
    haveI := facts_pers I c (kl e r) (fun m => m) 2
    icases Hf with #Hf
    ihave HE' := (env_cell I K N c (.sS e r j)) $$ HE
    icases HE' with ⟨HiS, HrS⟩
    ihave HE' := (env_cell I K N (pt e r c) (.sR e r j)) $$ HE
    icases HE' with ⟨HiR, HrR⟩
    ihave Hh' := (any_split (bM e) (pt e r c) (j.val * Qn e r) (Qn e r) (jn e r j)) $$ Hh
    icases Hh' with ⟨Hh, Hj⟩
    ihave Hy' := ((hsr (Ac I r.val c)).1) $$ Hy
    icases Hy' with ⟨%fs, %hfs, Hy⟩
    ihave Hh' := (any_rows (F := F) _ _ _ _) $$ Hh
    icases Hh' with ⟨%A₀, Hh⟩
    ihave Hh' := ((hds A₀).1) $$ Hh
    icases Hh' with ⟨%fd, %hfd, Hh⟩
    have hd₁ : (0 : Fin 3) ∈ (Rd I).duties (cell c (.sS e r j)) 0 := by
      rw [Rd_duties]; dsimp only [dts]; rw [if_neg hrj]; exact Finset.mem_singleton_self _
    have hd₂ : (0 : Fin 3) ∈ (Rd I).duties (cell (pt e r c) (.sR e r j)) 0 := by
      rw [Rd_duties]; dsimp only [dts]; rw [if_neg hrj]; exact Finset.mem_singleton_self _
    have hk₁ : (Rd I).amount (cell c (.sS e r j)) 0 (0 : Fin 3) = RefSig.tileCredit (Sh (Qn e r)) .f32 := Rd_amount I c (.sS e r j) 0 0
    have hk₂ : (Rd I).amount (cell (pt e r c) (.sR e r j)) 0 (0 : Fin 3) = RefSig.tileCredit (Sh (Qn e r)) .f32 := Rd_amount I (pt e r c) (.sR e r j) 0 0
    have hp₁ : (emp : sProp 𝕄) ⊢ (Rd I).payload (cell c (.sS e r j)) 0 (0 : Fin 3) := by rw [Rd_payload]; exact .rfl
    have hp₂ : iprop(((dst.view.loc (pt e r c : Thread nD τ) ↦[dst.view.set]{fullShare}
          (dst.view.write (Elt F) fd (src.view.read (Elt F) fs) Finset.univ))
          ∗ (rowsAny (bM e) (pt e r c) (j.val * Qn e r + Qn e r) (jn e r j) ∗ holds I c ((kl e r).map fun m => .rel m 2)))
        ∗ (src.view.loc (c : Thread nD τ) ↦[src.view.set]{fullShare} fs))
        ⊢ (Rd I).payload (cell (pt e r c) (.sR e r j)) 0 (0 : Fin 3) := by
      rw [Rd_payload]
      show _ ⊢ iprop((rows (bM e) (pt e r c) (j.val * Qn e r) (Qn e r) (fun i col => Ac I r.val (pt e r (pt e r c)) (Sr (pt e r c) e (r.val + 1) + i) col)
          ∗ rowsAny (bM e) (pt e r c) (j.val * Qn e r + Qn e r) (jn e r j))
        ∗ rowsAny oM (pt e r (pt e r c)) (Sr (pt e r c) e (r.val + 1) + j.val * Qn e r) (Qn e r)
        ∗ holds I (pt e r c) ((kl e r).map fun m => .rel (xm m (mk e r)) 2))
      rw [pt_pt, S_pt]
      have h1 := (hds (fun i col => Ac I r.val c (Tr c e r + i) col)).2
        (dst.view.write (Elt F) fd (src.view.read (Elt F) fs) Finset.univ)
        (fun i => (congrFun (View.read_write_univ (Val := Elt F) (v := dst.view) (f := fd) (w := src.view.read (Elt F) fs)) i).trans
          ((hfs i).trans (by rw [Nat.add_assoc])))
      have h2 := (hsr (Ac I r.val c)).2 fs hfs
      iintro ⟨⟨H1, H2, H3⟩, H4⟩
      isplitl [H1 H2]
      · isplitl [H1]; · iapply h1; iexact H1
        iexact H2
      isplitl [H4]
      · iapply (rows_any oM c _ _ (Ac I r.val c)); iapply h2; iexact H4
      iapply (facts_across I c (mk e r) (kl e r)); iexact H3
    dsimp only [cell, amt] at hd₁ hd₂ hk₁ hk₂ hp₁ hp₂ ⊢
    rw [hS] at hd₁ hk₁ hp₁ ⊢
    rw [hR] at hd₂ hk₂ hp₂ ⊢
    iapply (Rounds.wp_send_landing_pointsTo_with 𝒱₀ ER (Rd I) (c : Thread nD τ) none (κ₁ := K (c, .sS e r j)) (κ₂ := K (pt e r c, .sR e r j))
      (r₁ := 0) (r₂ := 0) (d₁ := 0) (d₂ := 0) (fd := fd) hd₁ hd₂ (0 : Fin 2).val (0 : Fin 2).val (RefSig.tileCredit (Sh (Qn e r)) .f32) hN hk₁ hk₂ (Osum c (pays t)) rfl (W := W) hp₁ hp₂)
      $$ [HO Hy Hh Hj HtS HtR HiS HrS HiR HrR]
    · isplitl [HiS]; · iexact HiS
      isplitl [HiR]; · iexact HiR
      isplitl [Hy]; · iexact Hy
      isplitl [Hh Hj]
      · isplitl [Hh]; · iexact Hh
        isplitl [Hj]; · iexact Hj
        iexact Hf
      isplitl [HO]; · iexact HO
      isplitl [HtS]; · iexact HtS
      isplitl [HrS]; · iexact HrS
      isplitl [HtR]; · iexact HtR
      iexact HrR
    iintro ⟨Hc, HO⟩
    iapply Hk
    isplitl [HO]; · unfold ow; iexists W; iexact HO
    isplitl [Hc]; · iexact Hc
    iexact Hf
  iintro H
  iapply h $$ H
  iintro H
  iapply hk; iexact H

/-- An all-gather message: the rows land in the partner's result at the same place; the sender gets its own rows back. -/
theorem st_gsn {α : Type} {Q : α → sProp 𝕄} (e k : Fin 3) {n : ℕ} (hn : n = Hn e k)
    {dev : Dev nD} (hdev : dev = pt e k c)
    {src dst : Memref sig .tc .vmem (Sh n) .f32}
    (hsr : IsRows (F := F) oM c src (Sr c e (k.val + 1))) (hds : IsRows (F := F) oM (pt e k c) dst (Sr c e (k.val + 1)))
    {sS sR : DmaSem sig} (hS : loc (.gS e k) = .dma sS) (hR : loc (.gR e k) = .dma sR)
    (hN : dst.view.amount (.dma sR) = RefSig.tileCredit (Sh (Hn e k)) .f32)
    {hsc hsrc hdst hsem} {kk : PUnit → Pg F α} (hk : Hold I K N c t ⊢ wpc c (kk ⟨⟩) Q) :
    Hold I K N c (.gsn e k :: t)
      ⊢ wpc c (.op (.enqueueDma src (.remote (Dev.tc dev) dst (.dma sS) hsc) (.dma sR) hsrc hdst hsem) kk) Q := by
  subst hn hdev
  have hW : Wd e (up k) = Hn e k := by fin_cases k <;> rfl
  have h := hold_step I K N c (.gsn e k) t (X := wpc c (kk ⟨⟩) Q)
    (Y := wpc c (.op (.enqueueDma src (.remote (Dev.tc (pt e k c)) dst (.dma sS) hsc) (.dma sR) hsrc hdst hsem) kk) Q) fun _ => by
    rw [pays_some (s := .gsn e k) rfl, ow_cons]
    show iprop(Env I K N ∗ (∃ W, owes (c : Thread nD τ) (Osum c (pays t) + tallyAt (cell (pt e k c) (.gR e k)) (0 : Fin 2).val (amt (.gR e k))) W)
      ∗ (rows oM c (Sr c e (k.val + 1)) (Wd e (up k)) (Fn I) ∗ rowsAny oM (pt e k c) (Sr c e (k.val + 1)) (Hn e k)
        ∗ dutyTok ER (cell (xr 0 c) (.gS e k)) 0 0 ∗ dutyTok ER (cell (pt e k c) (.gR e k)) 0 0 ∗ emp))
      ⊢ iprop((ow c (pays t) ∗ (cred (tallyAt (cell c (.gS e k)) (0 : Fin 2).val (amt (.gS e k))) ∗ emp) -∗ _) -∗ _)
    rw [xr_zero, hW]
    iintro ⟨#HE, ⟨%W, HO⟩, Hy, Hh, HtS, HtR, -⟩ Hk
    ihave HE' := (env_cell I K N c (.gS e k)) $$ HE
    icases HE' with ⟨HiS, HrS⟩
    ihave HE' := (env_cell I K N (pt e k c) (.gR e k)) $$ HE
    icases HE' with ⟨HiR, HrR⟩
    ihave Hy' := ((hsr (Fn I)).1) $$ Hy
    icases Hy' with ⟨%fs, %hfs, Hy⟩
    ihave Hh' := (any_rows (F := F) _ _ _ _) $$ Hh
    icases Hh' with ⟨%A₀, Hh⟩
    ihave Hh' := ((hds A₀).1) $$ Hh
    icases Hh' with ⟨%fd, %hfd, Hh⟩
    have hd₁ : (0 : Fin 3) ∈ (Rd I).duties (cell c (.gS e k)) 0 := by rw [Rd_duties]; exact Finset.mem_singleton_self _
    have hd₂ : (0 : Fin 3) ∈ (Rd I).duties (cell (pt e k c) (.gR e k)) 0 := by rw [Rd_duties]; exact Finset.mem_singleton_self _
    have hk₁ : (Rd I).amount (cell c (.gS e k)) 0 (0 : Fin 3) = RefSig.tileCredit (Sh (Hn e k)) .f32 := Rd_amount I c (.gS e k) 0 0
    have hk₂ : (Rd I).amount (cell (pt e k c) (.gR e k)) 0 (0 : Fin 3) = RefSig.tileCredit (Sh (Hn e k)) .f32 := Rd_amount I (pt e k c) (.gR e k) 0 0
    have hp₁ : (src.view.loc (c : Thread nD τ) ↦[src.view.set]{fullShare} fs) ⊢ (Rd I).payload (cell c (.gS e k)) 0 (0 : Fin 3) := by
      rw [Rd_payload]
      show _ ⊢ iprop(rows oM c (Sr c e (k.val + 1)) (Wd e (up k)) (Fn I) ∗ emp)
      rw [hW]
      iintro H
      isplitl [H]; · iapply ((hsr (Fn I)).2 fs hfs); iexact H
      iempintro
    have hp₂ : (dst.view.loc (pt e k c : Thread nD τ) ↦[dst.view.set]{fullShare}
          (dst.view.write (Elt F) fd (src.view.read (Elt F) fs) Finset.univ))
        ⊢ (Rd I).payload (cell (pt e k c) (.gR e k)) 0 (0 : Fin 3) := by
      rw [Rd_payload]
      show _ ⊢ iprop(rows oM (pt e k c) (Tr (pt e k c) e k) (Hn e k) (Fn I) ∗ emp)
      rw [T_pt]
      iintro H
      isplitl [H]
      · iapply ((hds (Fn I)).2 _
          (fun i => (congrFun (View.read_write_univ (Val := Elt F) (v := dst.view) (f := fd) (w := src.view.read (Elt F) fs)) i).trans (hfs i)))
        iexact H
      iempintro
    dsimp only [cell, amt] at hd₁ hd₂ hk₁ hk₂ hp₁ hp₂ ⊢
    rw [hS] at hd₁ hk₁ hp₁ ⊢
    rw [hR] at hd₂ hk₂ hp₂ ⊢
    iapply (Rounds.wp_send_pointsTo 𝒱₀ ER (Rd I) (c : Thread nD τ) none (κ₁ := K (c, .gS e k)) (κ₂ := K (pt e k c, .gR e k))
      (r₁ := 0) (r₂ := 0) (d₁ := 0) (d₂ := 0) (fd := fd) hd₁ hd₂ (0 : Fin 2).val (0 : Fin 2).val (RefSig.tileCredit (Sh (Hn e k)) .f32) hN hk₁ hk₂ (Osum c (pays t)) rfl (W := W) hp₁ hp₂)
      $$ [HO Hy Hh HtS HtR HiS HrS HiR HrR]
    · isplitl [HiS]; · iexact HiS
      isplitl [HiR]; · iexact HiR
      isplitl [Hy]; · iexact Hy
      isplitl [Hh]; · iexact Hh
      isplitl [HO]; · iexact HO
      isplitl [HtS]; · iexact HtS
      isplitl [HrS]; · iexact HrS
      isplitl [HtR]; · iexact HtR
      iexact HrR
    iintro ⟨Hc, HO⟩
    iapply Hk
    isplitl [HO]; · unfold ow; iexists W; iexact HO
    isplitl [Hc]; · iexact Hc
    iempintro
  iintro H
  iapply h $$ H
  iintro H
  iapply hk; iexact H

end Sends

end Cert.KernelIdeal.AR

end
-- ==== Proof.KernelIdealWaits.lean ====
/-
The signals and the waits of a device's run, each as a step.
-/
module

public import proofs.«01_k».proof.Proof.KernelIdealSteps

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : In F) (K : Dev nD × Cd → ℕ) (N : Dev nD × Fin 3 → ℕ) (c : Dev nD)

theorem rel_across (m : Fin 8) (n : Fin 4) : (at' I (xr m c) (.rel m n) : sProp 𝕄) = at' I c (.rel 0 n) := by
  show relAll n.val (xr m (xr m c)) = relAll n.val (xr 0 c)
  rw [xr_xr, xr_zero]

section Steps
variable {I K N c} {t : List Stp}

/-- A signal of the entry barrier. -/
theorem st_sigBar {α : Type} {Q : α → sProp 𝕄} (i : Fin 3) {dev : Dev nD} (hdev : dev = xr (bmask i) c) {kk : PUnit → Pg F α}
    (hk : Hold I K N c t ⊢ wpc c (kk ⟨⟩) Q) :
    Hold I K N c (.sigBar i :: t) ⊢ wpc c (.op (.semSignal (dev, Proc.tc) sbar (1#32).toInt) kk) Q :=
  st_signal I K N c (.sigBar i) (bmask i) .bar 0 i [.rel 0 1] rfl rfl rfl (Finset.mem_univ i) rfl (by
    show iprop(at' I c (.rel 0 1) ∗ emp) ⊢ iprop((at' I c (.rel 0 1) ∗ emp) ∗ (at' I (xr (bmask i) c) (.rel (bmask i) 1) ∗ emp))
    rw [rel_across]
    unfold at'
    iintro ⟨#H, -⟩
    isplitr
    · isplitr; · iexact H
      iempintro
    isplitr; · iexact H
    iempintro) hdev rfl hk

/-- The signal that a device's buffers are free for round 1. -/
theorem st_sgA {α : Type} {Q : α → sProp 𝕄} (e : Fin 3) {dev : Dev nD} (hdev : dev = xr (mk e 1) c) {sem : Sem sig} (hsem : scr e = sem) {kk : PUnit → Pg F α}
    (hk : Hold I K N c t ⊢ wpc c (kk ⟨⟩) Q) :
    Hold I K N c (.sgA e :: t) ⊢ wpc c (.op (.semSignal (dev, Proc.tc) sem (1#32).toInt) kk) Q :=
  st_signal I K N c (.sgA e) (mk e 1) (.cr e) 0 0 [.rel 0 2] rfl rfl rfl (Finset.mem_insert_self _ _) rfl (by
    show iprop(at' I c (.rel 0 2) ∗ emp) ⊢ iprop((at' I c (.rel 0 2) ∗ emp) ∗ (at' I (xr (mk e 1) c) (.rel (mk e 1) 2) ∗ emp))
    rw [rel_across]
    unfold at'
    iintro ⟨#H, -⟩
    isplitr
    · isplitr; · iexact H
      iempintro
    isplitr; · iexact H
    iempintro) hdev (congrArg SemLoc.reg hsem) hk

/-- The signal that engine `e`'s buffer is free for round 2. -/
theorem st_sgB {α : Type} {Q : α → sProp 𝕄} (e : Fin 3) {dev : Dev nD} (hdev : dev = xr (mk e 2) c) {sem : Sem sig} (hsem : scr e = sem) {kk : PUnit → Pg F α}
    (hk : Hold I K N c t ⊢ wpc c (kk ⟨⟩) Q) :
    Hold I K N c (.sgB e :: t) ⊢ wpc c (.op (.semSignal (dev, Proc.tc) sem (1#32).toInt) kk) Q :=
  st_signal I K N c (.sgB e) (mk e 2) (.cr e) 1 1 [.rel1 0 e 3, .rel (xm (mk e 1) (mk e 2)) 2] rfl rfl rfl
    (Finset.mem_insert_of_mem (Finset.mem_singleton_self _)) rfl (by
    have h1 : (at' I (xr (mk e 2) c) (.rel (mk e 1) 2) : sProp 𝕄) = at' I c (.rel (xm (mk e 1) (mk e 2)) 2) := by
      show relAll _ (xr (mk e 1) (xr (mk e 2) c)) = relAll _ (xr (xm (mk e 1) (mk e 2)) c)
      rw [xr_comp]
    have h2 : (at' I (xr (mk e 2) c) (.rel1 (mk e 2) e 3) : sProp 𝕄) = at' I c (.rel1 0 e 3) := by
      show Release.released EL (xr (mk e 2) (xr (mk e 2) c), e) _ = Release.released EL (xr 0 c, e) _
      rw [xr_xr, xr_zero]
    show iprop(at' I c (.rel1 0 e 3) ∗ at' I c (.rel (xm (mk e 1) (mk e 2)) 2) ∗ emp)
      ⊢ iprop((at' I c (.rel1 0 e 3) ∗ at' I c (.rel (xm (mk e 1) (mk e 2)) 2) ∗ emp)
        ∗ (at' I (xr (mk e 2) c) (.rel (mk e 1) 2) ∗ at' I (xr (mk e 2) c) (.rel1 (mk e 2) e 3) ∗ emp))
    rw [h1, h2]
    unfold at'
    iintro ⟨#H, #H', -⟩
    isplitr
    · isplitr; · iexact H
      isplitr; · iexact H'
      iempintro
    isplitr; · iexact H'
    isplitr; · iexact H
    iempintro) hdev (congrArg SemLoc.reg hsem) hk

/-- The wait of the entry barrier. -/
theorem st_wtBar {α : Type} {Q : α → sProp 𝕄} {n : ℕ} (hn : n = 3) {kk : PUnit → Pg F α} (hk : Hold I K N c t ⊢ wpc c (kk ⟨⟩) Q) :
    Hold I K N c (.wtBar :: t) ⊢ wpc c (.op (.semWait sbar n) kk) Q :=
  st_wait I K N c .wtBar .bar rfl rfl rfl [.rel 1 1, .rel 3 1, .rel 4 1] rfl (by
    rw [show dts .bar = insert (0 : Fin 3) (insert 1 {2}) from by decide, bigSep_insert (by decide), bigSep_insert (by decide), bigSep_singleton]
    show iprop((at' I c (.rel 1 1) ∗ emp) ∗ (at' I c (.rel 3 1) ∗ emp) ∗ (at' I c (.rel 4 1) ∗ emp)) ⊢ iprop(at' I c (.rel 1 1) ∗ at' I c (.rel 3 1) ∗ at' I c (.rel 4 1) ∗ emp)
    iintro ⟨⟨H0, -⟩, ⟨H1, -⟩, ⟨H2, -⟩⟩
    isplitl [H0]; · iexact H0
    isplitl [H1]; · iexact H1
    isplitl [H2]; · iexact H2
    iempintro) rfl rfl hn (fun Kt => wpE_semWait_eq 𝒱₀ (c : Thread nD τ) none Set.univ Kt) hk

/-- The wait for a reduce-scatter message. -/
theorem st_rcv {α : Type} {Q : α → sProp 𝕄} (e r : Fin 3) (j : Fin 2) (hrj : ¬(r = 2 ∧ j = 1)) {sem : DmaSem sig} (hsem : dsR e r j = sem)
    {s : Shape} {sp sp' : Space} {src : Memref sig .tc sp' s .f32} {dst : Memref sig .tc sp s .f32} {hsrc hdst}
    (hn : dst.view.dmaCredit = RefSig.tileCredit (Sh (Qn e r)) .f32) {kk : PUnit → Pg F α}
    (hk : Hold I K N c t ⊢ wpc c (kk ⟨⟩) Q) :
    Hold I K N c (.rcv e r j :: t) ⊢ wpc c (.op (.waitDma2 sem src dst hsrc hdst) kk) Q :=
  st_wait I K N c (.rcv e r j) (.sR e r j) rfl rfl rfl _ rfl (by
    rw [show dts (.sR e r j) = {0} from if_neg hrj, bigSep_singleton]
    exact .rfl) (by rw [show dts (.sR e r j) = {0} from if_neg hrj, Finset.card_singleton, Nat.one_mul]; rfl) (congrArg SemLoc.dma hsem) hn
    (fun Kt => wpE_waitDma2_eq 𝒱₀ (c : Thread nD τ) none Set.univ Kt) hk

/-- The wait for a reduce-scatter message to have left. -/
theorem st_wsn {α : Type} {Q : α → sProp 𝕄} (e r : Fin 3) (j : Fin 2) (hrj : ¬(r = 2 ∧ j = 1)) {sem : DmaSem sig} (hsem : dsS e r j = sem)
    {s : Shape} {sp sp' : Space} {src : Memref sig .tc sp' s .f32} {dst : Memref sig .tc sp s .f32} {hsrc hdst}
    (hn : dst.view.dmaCredit = RefSig.tileCredit (Sh (Qn e r)) .f32) {kk : PUnit → Pg F α}
    (hk : Hold I K N c t ⊢ wpc c (kk ⟨⟩) Q) :
    Hold I K N c (.wsn e r j :: t) ⊢ wpc c (.op (.waitDma2 sem src dst hsrc hdst) kk) Q :=
  st_wait I K N c (.wsn e r j) (.sS e r j) rfl rfl rfl [] rfl (by
    rw [show dts (.sS e r j) = {0} from if_neg hrj, bigSep_singleton]
    exact .rfl) (by rw [show dts (.sS e r j) = {0} from if_neg hrj, Finset.card_singleton, Nat.one_mul]; rfl) (congrArg SemLoc.dma hsem) hn
    (fun Kt => wpE_waitDma2_eq 𝒱₀ (c : Thread nD τ) none Set.univ Kt) hk

/-- The wait for an all-gather message to have left. -/
theorem st_gwS {α : Type} {Q : α → sProp 𝕄} (e k : Fin 3) {sem : DmaSem sig} (hsem : dgS e k = sem)
    {s : Shape} {sp sp' : Space} {src : Memref sig .tc sp' s .f32} {dst : Memref sig .tc sp s .f32} {hsrc hdst}
    (hn : dst.view.dmaCredit = RefSig.tileCredit (Sh (Hn e k)) .f32) {kk : PUnit → Pg F α}
    (hk : Hold I K N c t ⊢ wpc c (kk ⟨⟩) Q) :
    Hold I K N c (.gwS e k :: t) ⊢ wpc c (.op (.waitDma2 sem src dst hsrc hdst) kk) Q :=
  st_wait I K N c (.gwS e k) (.gS e k) rfl rfl rfl [.fin e (up k)] rfl (by
    rw [show dts (.gS e k) = {0} from rfl, bigSep_singleton]
    exact .rfl) (by rw [show dts (.gS e k) = {0} from rfl, Finset.card_singleton, Nat.one_mul]; rfl) (congrArg SemLoc.dma hsem) hn
    (fun Kt => wpE_waitDma2_eq 𝒱₀ (c : Thread nD τ) none Set.univ Kt) hk

/-- The wait for an all-gather message. -/
theorem st_gwR {α : Type} {Q : α → sProp 𝕄} (e k : Fin 3) {sem : DmaSem sig} (hsem : dgR e k = sem)
    {s : Shape} {sp sp' : Space} {src : Memref sig .tc sp' s .f32} {dst : Memref sig .tc sp s .f32} {hsrc hdst}
    (hn : dst.view.dmaCredit = RefSig.tileCredit (Sh (Hn e k)) .f32) {kk : PUnit → Pg F α}
    (hk : Hold I K N c t ⊢ wpc c (kk ⟨⟩) Q) :
    Hold I K N c (.gwR e k :: t) ⊢ wpc c (.op (.waitDma2 sem src dst hsrc hdst) kk) Q :=
  st_wait I K N c (.gwR e k) (.gR e k) rfl rfl rfl [.finO e k] rfl (by
    rw [show dts (.gR e k) = {0} from rfl, bigSep_singleton]
    exact .rfl) (by rw [show dts (.gR e k) = {0} from rfl, Finset.card_singleton, Nat.one_mul]; rfl) (congrArg SemLoc.dma hsem) hn
    (fun Kt => wpE_waitDma2_eq 𝒱₀ (c : Thread nD τ) none Set.univ Kt) hk

/-! ## The two waits on a credit semaphore -/

theorem subsets_of (S : Finset (Fin 3)) (h : S ⊆ {0, 1}) (h' : (({0, 1} : Finset (Fin 3)) \ S).card ≤ 1) : S = {0} ∨ S = {1} ∨ S = {0, 1} := by
  revert h h'; revert S; decide +kernel

/-- What the first wait's payments hand over: whichever of the two they are, the partner's buffers are free for round 1. -/
theorem credit_first (e : Fin 3) (S : Finset (Fin 3)) (h : S = {0} ∨ S = {1} ∨ S = {0, 1}) :
    bigSep S (fun d => holds I c (hand (.cr e) d))
      ⊢ (iprop(at' I c (.rel (mk e 1) 2) ∗ (⌜(1 : Fin 3) ∉ S⌝ ∨ Release.released EL (xr (mk e 2) c, e) 3)) : sProp 𝕄) := by
  have h0 : holds I c (hand (.cr e) 0) ⊢ (at' I c (.rel (mk e 1) 2) : sProp 𝕄) := by
    show iprop(at' I c (.rel (mk e 1) 2) ∗ emp) ⊢ _
    iintro ⟨H, -⟩; iexact H
  have h1 : holds I c (hand (.cr e) 1) ⊢ (iprop(at' I c (.rel (mk e 1) 2) ∗ Release.released EL (xr (mk e 2) c, e) 3) : sProp 𝕄) := by
    show iprop(at' I c (.rel (mk e 1) 2) ∗ Release.released EL (xr (mk e 2) c, e) 3 ∗ emp) ⊢ _
    iintro ⟨H, H', -⟩
    isplitl [H] <;> iassumption
  rcases h with rfl | rfl | rfl
  · rw [bigSep_singleton]
    iintro H
    isplitl [H]; · iapply h0; iexact H
    ileft; ipureintro; decide
  · rw [bigSep_singleton]
    iintro H
    ihave H' := h1 $$ H
    icases H' with ⟨H, H'⟩
    isplitl [H]; · iexact H
    iright; iexact H'
  · rw [bigSep_insert (by decide), bigSep_singleton]
    show iprop(holds I c (hand (.cr e) 0) ∗ holds I c (hand (.cr e) 1)) ⊢ _
    iintro ⟨-, H⟩
    ihave H' := h1 $$ H
    icases H' with ⟨H, H'⟩
    isplitl [H]; · iexact H
    iright; iexact H'

/-- The first wait. -/
theorem st_wtA {α : Type} {Q : α → sProp 𝕄} (e : Fin 3) {sem : Sem sig} (hsem : scr e = sem) {n : ℕ} (hn : n = 1) {kk : PUnit → Pg F α}
    (hk : Hold I K N c t ⊢ wpc c (kk ⟨⟩) Q) :
    Hold I K N c (.wtA e :: t) ⊢ wpc c (.op (.semWait sem n) kk) Q := by
  subst hsem hn
  have h := hold_step I K N c (.wtA e) t (X := wpc c (kk ⟨⟩) Q) (Y := wpc c (.op (.semWait (scr e) 1) kk) Q) fun hok => by
    rw [pays_none (s := .wtA e) rfl]
    show iprop(Env I K N ∗ (∃ W, owes (c : Thread nD τ) (Osum c (pays t)) W) ∗ atPos ER (cell c (.cr e)) 0 ∅ 0 ∗ cred (tallyOn (cell c (.cr e)) (Finsupp.single (0 : Fin 2).val 1)) ∗ emp)
      ⊢ iprop((ow c (pays t) ∗ ((∃ S : Finset (Fin 3), atPos ER (cell c (.cr e)) 0 S 1 ∗ ⌜S ⊆ {0, 1}⌝ ∗ (⌜(1 : Fin 3) ∉ S⌝ ∨ Release.released EL (xr (mk e 2) c, e) 3))
          ∗ at' I c (.rel (mk e 1) 2) ∗ emp) -∗ _) -∗ _)
    iintro ⟨#HE, ⟨%W, HO⟩, Hat, Hc, -⟩ Hk
    ihave HE' := (env_cell I K N c (.cr e)) $$ HE
    icases HE' with ⟨#Hi, -⟩
    iapply (Rounds.wp_wait 𝒱₀ ER (Rd I) (c : Thread nD τ) none (κ := K (c, .cr e)) (fun Kt => wpE_semWait_eq 𝒱₀ (c : Thread nD τ) none Set.univ Kt) (Set.mem_univ _)
      (cr := Finsupp.single (0 : Fin 2).val 1) (O := Osum c (pays t)) (W := W) {(loc (.cr e), (0 : Fin 2).val)} (R := 0) (m := 0) (T := ∅)
      (Util.total_single _ _) (image_single_subset (loc (.cr e)) (0 : Fin 2).val 1)) $$ [HO Hat Hc]
    · isplitr; · iexact Hi
      isplitl [Hc]; · iexact Hc
      isplitl [HO]; · iexact HO
      isplitr; · iapply (mayWait c (s := .wtA e) rfl hok); iapply (env_lev I K N); iexact HE
      iexact Hat
    iintro %S ⟨%hS, HO, Hat, Hp⟩
    have hS' : S ⊆ {0, 1} ∧ 0 + 1 + (({0, 1} : Finset (Fin 3)) \ S).card ≤ 2 := by
      have h2 := Rd_duties I c (.cr e)
      have h3 := Rd_expect I c (.cr e)
      dsimp only [cell, loc, dts, amt] at h2 h3
      rw [h2, h3] at hS
      exact ⟨hS.2.1, hS.2.2⟩
    have hp : bigSep (S \ ∅) (fun d => (Rd I).payload ((c : Thread nD τ), SemLoc.reg (scr e)) 0 d)
        ⊢ (iprop(at' I c (.rel (mk e 1) 2) ∗ (⌜(1 : Fin 3) ∉ S⌝ ∨ Release.released EL (xr (mk e 2) c, e) 3)) : sProp 𝕄) := by
      rw [Finset.sdiff_empty]
      exact (Entails.of_eq (bigSep_congr fun d _ => Rd_payload I c (.cr e) 0 d)).trans (credit_first (I := I) (c := c) e S (subsets_of S hS'.1 (by omega)))
    ihave Hp' := hp $$ Hp
    icases Hp' with ⟨Hr, Hd⟩
    iapply Hk
    isplitl [HO]; · unfold ow; iexists _; iexact HO
    isplitl [Hat Hd]
    · iexists S
      isplitl [Hat]; · iexact Hat
      isplitr; · ipureintro; exact hS'.1
      iexact Hd
    isplitl [Hr]; · iexact Hr
    iempintro
  iintro H
  iapply h $$ H
  iintro H
  iapply hk; iexact H

/-- The second wait, after which the semaphore is finished with. -/
theorem st_wtB {α : Type} {Q : α → sProp 𝕄} (e : Fin 3) {sem : Sem sig} (hsem : scr e = sem) {n : ℕ} (hn : n = 1) {kk : PUnit → Pg F α}
    (hk : Hold I K N c t ⊢ wpc c (kk ⟨⟩) Q) :
    Hold I K N c (.wtB e :: t) ⊢ wpc c (.op (.semWait sem n) kk) Q := by
  subst hsem hn
  have h := hold_step I K N c (.wtB e) t (X := wpc c (kk ⟨⟩) Q) (Y := wpc c (.op (.semWait (scr e) 1) kk) Q) fun hok => by
    rw [pays_none (s := .wtB e) rfl]
    show iprop(Env I K N ∗ (∃ W, owes (c : Thread nD τ) (Osum c (pays t)) W)
        ∗ (∃ S : Finset (Fin 3), atPos ER (cell c (.cr e)) 0 S 1 ∗ ⌜S ⊆ {0, 1}⌝ ∗ (⌜(1 : Fin 3) ∉ S⌝ ∨ Release.released EL (xr (mk e 2) c, e) 3))
        ∗ cred (tallyAt (cell c (.cr e)) (1 : Fin 2).val 1) ∗ emp)
      ⊢ iprop((ow c (pays t) ∗ (semVal (cell c (.cr e)) 0 ∗ Release.released EL (xr (mk e 2) c, e) 3 ∗ emp) -∗ _) -∗ _)
    iintro ⟨#HE, ⟨%W, HO⟩, ⟨%S, Hat, %hS, Hd⟩, Hc, -⟩ Hk
    ihave HE' := (env_cell I K N c (.cr e)) $$ HE
    icases HE' with ⟨#Hi, -⟩
    have hx : 1 + 1 = (Rd I).expect ((c : Thread nD τ), SemLoc.reg (scr e)) 0 := (Rd_expect I c (.cr e)).symm
    iapply (Rounds.wp_wait_rest_token 𝒱₀ ER (Rd I) (c : Thread nD τ) none (κ := K (c, .cr e)) (fun Kt => wpE_semWait_eq 𝒱₀ (c : Thread nD τ) none Set.univ Kt) (Set.mem_univ _)
      (1 : Fin 2).val (O := Osum c (pays t)) (W := W) (R := 0) (m := 1) (T := S) hx) $$ [HO Hat Hc]
    · isplitr; · iexact Hi
      isplitl [Hc]; · iexact Hc
      isplitl [HO]; · iexact HO
      isplitr; · iapply (mayWait c (s := .wtB e) rfl hok); iapply (env_lev I K N); iexact HE
      iexact Hat
    iintro ⟨HO, Hat, -, Hp⟩
    have hp : 1 ∉ S → bigSep ((Rd I).duties ((c : Thread nD τ), SemLoc.reg (scr e)) 0 \ S) (fun d => (Rd I).payload ((c : Thread nD τ), SemLoc.reg (scr e)) 0 d)
        ⊢ (Release.released EL (xr (mk e 2) c, e) 3 : sProp 𝕄) := fun h1 => by
      have hm : (1 : Fin 3) ∈ (Rd I).duties (cell c (.cr e)) 0 \ S := by
        rw [Rd_duties]; exact Finset.mem_sdiff.mpr ⟨Finset.mem_insert_of_mem (Finset.mem_singleton_self _), h1⟩
      have he : bigSep ((Rd I).duties (cell c (.cr e)) 0 \ S) (fun d => (Rd I).payload (cell c (.cr e)) 0 d) ⊢ (Rd I).payload (cell c (.cr e)) 0 (1 : Fin 3) := bigSep_elim hm
      rw [Rd_payload] at he
      refine he.trans ?_
      show iprop(at' I c (.rel (mk e 1) 2) ∗ Release.released EL (xr (mk e 2) c, e) 3 ∗ emp) ⊢ _
      iintro ⟨-, H, -⟩; iexact H
    imod (Rounds.cell_close ER (Rd I) (Set.mem_univ (K (c, .cr e))) (fun h => h) (R := 0 + 1) (Rd_later I (cell c (.cr e)))) $$ [Hat] with Hz
    · isplitr; · iexact Hi
      iexact Hat
    iapply Hk
    isplitl [HO]; · unfold ow; iexists _; iexact HO
    isplitl [Hz]; · iexact Hz
    isplitr []
    · icases Hd with (%h1 | Hd)
      · iapply (hp h1); iexact Hp
      · iexact Hd
    iempintro
  iintro H
  iapply h $$ H
  iintro H
  iapply hk; iexact H

end Steps

end Cert.KernelIdeal.AR

end
-- ==== Proof.KernelIdealGhost.lean ====
/-
The rearrangements between a device's effects: taking the result apart into the rows each round moves and putting it
together again, giving a landing buffer over and taking the partner's.
-/
module

public import proofs.«01_k».proof.Proof.KernelIdealSteps

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Arithmetic of the row ranges -/

theorem H_two (e : Fin 3) : Hn e 0 = Qn e 0 + Qn e 0 := by fin_cases e <;> rfl
theorem H_msgs (e r : Fin 3) (h : r ≠ 2) : Hn e r = Qn e r + Qn e r := by revert h; fin_cases e <;> fin_cases r <;> decide
theorem H_last (e : Fin 3) : Hn e 2 = Qn e 2 := by fin_cases e <;> rfl
theorem H_half (e r : Fin 3) (h : r ≠ 2) : Hn e r = 2 * Hn e (nx r) := by revert h; fin_cases e <;> fin_cases r <;> decide
theorem W_up (e k : Fin 3) : Wd e (up k) = Hn e k := by fin_cases e <;> fin_cases k <;> rfl
theorem W_cast (e k : Fin 3) : Wd e k.castSucc = 2 * Hn e k := by fin_cases e <;> fin_cases k <;> rfl

section Pairs
variable {h : ℕ} (M : Memref sig .tc .vmem (Sh h) .f32) (c : Dev nD)

/-- Two halves, in either order. -/
theorem rows_halves {a n b : ℕ} (hb : b = 0 ∨ b = 1) (A : Ct F) :
    rows M c a (2 * n) A ⊢ (iprop(rows M c (a + (1 - b) * n) n A ∗ rows M c (a + b * n) n A) : sProp 𝕄) := by
  rw [Nat.two_mul]
  iintro H
  ihave H' := (rows_split M c a n n A) $$ H
  icases H' with ⟨H1, H2⟩
  rcases hb with rfl | rfl
  · rw [show (1 - 0) * n = n by omega, show a + 0 * n = a by omega]
    isplitl [H2] <;> iassumption
  · rw [show a + (1 - 1) * n = a by omega, show 1 * n = n by omega]
    isplitl [H1] <;> iassumption

theorem rows_whole {a n b : ℕ} (hb : b = 0 ∨ b = 1) (A : Ct F) :
    iprop(rows M c (a + (1 - b) * n) n A ∗ rows M c (a + b * n) n A) ⊢ (rows M c a (2 * n) A : sProp 𝕄) := by
  rw [Nat.two_mul]
  rcases hb with rfl | rfl
  · rw [show (1 - 0) * n = n by omega, show a + 0 * n = a by omega]
    iintro ⟨H1, H2⟩
    iapply (rows_join M c a n n A)
    isplitl [H2] <;> iassumption
  · rw [show a + (1 - 1) * n = a by omega, show 1 * n = n by omega]
    exact rows_join M c a n n A

theorem any_halves {a n b : ℕ} (hb : b = 0 ∨ b = 1) :
    rowsAny M c a (2 * n) ⊢ (iprop(rowsAny M c (a + (1 - b) * n) n ∗ rowsAny M c (a + b * n) n) : sProp 𝕄) := by
  conv_lhs => unfold rowsAny
  iintro ⟨%A, H⟩
  ihave H' := (rows_halves M c hb A) $$ H
  icases H' with ⟨H1, H2⟩
  isplitl [H1]
  · iapply (rows_any M c _ n A); iexact H1
  · iapply (rows_any M c _ n A); iexact H2

/-- The two messages of a round. -/
theorem rows_msgs {a n q : ℕ} (hq : n = q + q) (A : Ct F) :
    rows M c a n A ⊢ (iprop(rows M c (a + (0 : Fin 2).val * q) q A ∗ rows M c (a + (1 : Fin 2).val * q) q A) : sProp 𝕄) := by
  subst hq
  rw [show a + (0 : Fin 2).val * q = a from by show a + 0 * q = a; omega, show a + (1 : Fin 2).val * q = a + q from by show a + 1 * q = a + q; omega]
  exact rows_split M c a q q A

theorem rows_unmsgs {a n q : ℕ} (hq : n = q + q) (A : Ct F) :
    iprop(rows M c (a + (0 : Fin 2).val * q) q A ∗ rows M c (a + (1 : Fin 2).val * q) q A) ⊢ (rows M c a n A : sProp 𝕄) := by
  subst hq
  rw [show a + (0 : Fin 2).val * q = a from by show a + 0 * q = a; omega, show a + (1 : Fin 2).val * q = a + q from by show a + 1 * q = a + q; omega]
  exact rows_join M c a q q A

theorem any_unmsgs {a n q : ℕ} (hq : n = q + q) :
    iprop(rowsAny M c (a + (0 : Fin 2).val * q) q ∗ rowsAny M c (a + (1 : Fin 2).val * q) q) ⊢ (rowsAny M c a n : sProp 𝕄) := by
  subst hq
  rw [show a + (0 : Fin 2).val * q = a from by show a + 0 * q = a; omega, show a + (1 : Fin 2).val * q = a + q from by show a + 1 * q = a + q; omega]
  exact any_join M c a q q

/-- A landing buffer as the rows of a round's two messages and what goes with the second. -/
theorem buf_two {n q r : ℕ} (hn : n = q + (q + r)) :
    rowsAny M c 0 n ⊢ (iprop(rowsAny M c ((0 : Fin 2).val * q) (q + 0) ∗ rowsAny M c ((1 : Fin 2).val * q) (q + r)) : sProp 𝕄) := by
  subst hn
  rw [show (0 : Fin 2).val * q = 0 from by show 0 * q = 0; omega, show (1 : Fin 2).val * q = 0 + q from by show 1 * q = 0 + q; omega, Nat.add_zero]
  exact any_split M c 0 q (q + r)

theorem buf_untwo {n q r : ℕ} (hn : n = q + (q + r)) :
    iprop(rowsAny M c ((0 : Fin 2).val * q) (q + 0) ∗ rowsAny M c ((1 : Fin 2).val * q) (q + r)) ⊢ (rowsAny M c 0 n : sProp 𝕄) := by
  subst hn
  rw [show (0 : Fin 2).val * q = 0 from by show 0 * q = 0; omega, show (1 : Fin 2).val * q = 0 + q from by show 1 * q = 0 + q; omega, Nat.add_zero]
  exact any_join M c 0 q (q + r)

end Pairs

variable (I : In F) (K : Dev nD × Cd → ℕ) (N : Dev nD × Fin 3 → ℕ) (c : Dev nD)

theorem ghost_pure {l l' : List Atom} (h : holds I c l ⊢ (holds I c l' : sProp 𝕄)) :
    iprop(Env I K N ∗ holds I c l) ⊢ (|={Set.univ}=> holds I c l' : sProp 𝕄) := by
  iintro ⟨-, H⟩
  imodintro
  iapply h; iexact H

/-! ## Taking the result apart, and putting it together -/

theorem engine_raw (e : Fin 3) : rowsAny oM c (base e) (2 * Hn e 0) ⊢ (iprop(at' I c (.raw e 0) ∗ at' I c (.raw e 1)) : sProp 𝕄) :=
  any_halves oM c (kb_le e 0 c)

theorem g_start : holds I c (Stp.pre .start) ⊢ (holds I c (Stp.post .start) : sProp 𝕄) := by
  show iprop(rowsAny oM c 0 (1408 + (1344 + 1344)) ∗ emp) ⊢ iprop(at' I c (.raw 0 0) ∗ at' I c (.raw 0 1) ∗ at' I c (.raw 1 0) ∗ at' I c (.raw 1 1) ∗ at' I c (.raw 2 0) ∗ at' I c (.raw 2 1) ∗ emp)
  have e0 : (rowsAny oM c 0 1408 : sProp 𝕄) ⊢ iprop(at' I c (.raw 0 0) ∗ at' I c (.raw 0 1)) := engine_raw I c 0
  have e1 : (rowsAny oM c (0 + 1408) 1344 : sProp 𝕄) ⊢ iprop(at' I c (.raw 1 0) ∗ at' I c (.raw 1 1)) := engine_raw I c 1
  have e2 : (rowsAny oM c (0 + 1408 + 1344) 1344 : sProp 𝕄) ⊢ iprop(at' I c (.raw 2 0) ∗ at' I c (.raw 2 1)) := engine_raw I c 2
  iintro ⟨H, -⟩
  ihave H' := (any_split oM c 0 1408 (1344 + 1344)) $$ H
  icases H' with ⟨H0, H⟩
  ihave H' := (any_split oM c (0 + 1408) 1344 1344) $$ H
  icases H' with ⟨H1, H2⟩
  ihave H0' := e0 $$ H0
  icases H0' with ⟨H01, H02⟩
  ihave H1' := e1 $$ H1
  icases H1' with ⟨H11, H12⟩
  ihave H2' := e2 $$ H2
  icases H2' with ⟨H21, H22⟩
  isplitl [H01]; · iexact H01
  isplitl [H02]; · iexact H02
  isplitl [H11]; · iexact H11
  isplitl [H12]; · iexact H12
  isplitl [H21]; · iexact H21
  isplitl [H22]; · iexact H22
  iempintro

theorem g_done : holds I c (Stp.pre .done) ⊢ (holds I c (Stp.post .done) : sProp 𝕄) := by
  show iprop(rows oM c 0 1408 (Fn I) ∗ rows oM c 1408 1344 (Fn I) ∗ rows oM c 2752 1344 (Fn I) ∗ emp) ⊢ iprop(rows oM c 0 (1408 + (1344 + 1344)) (Fn I) ∗ emp)
  iintro ⟨H0, H1, H2, -⟩
  isplitl [H0 H1 H2]
  · iapply (rows_join oM c 0 1408 (1344 + 1344) (Fn I))
    isplitl [H0]; · iexact H0
    iapply (rows_join oM c (0 + 1408) 1344 1344 (Fn I))
    isplitl [H1]; · iexact H1
    iexact H2
  iempintro

theorem g_gj (e k : Fin 3) : holds I c (Stp.pre (.gj e k)) ⊢ (holds I c (Stp.post (.gj e k)) : sProp 𝕄) := by
  show iprop(rows oM c (Sr c e (k.val + 1)) (Wd e (up k)) (Fn I) ∗ rows oM c (Sr c e k.val + (1 - kb e k c) * Hn e k) (Hn e k) (Fn I) ∗ emp)
    ⊢ iprop(rows oM c (Sr c e k.val) (Wd e k.castSucc) (Fn I) ∗ emp)
  rw [W_up, W_cast, S_succ]
  iintro ⟨H0, H1, -⟩
  isplitl [H0 H1]
  · iapply (rows_whole oM c (kb_le e k c) (Fn I))
    isplitl [H1] <;> iassumption
  iempintro

/-! ## From a round to the next -/

theorem Ac_last (e : Fin 3) : rows oM c (Sr c e 3) (Hn e 2) (Ac I 3 c) ⊢ (rows oM c (Sr c e 3) (Hn e 2) (Fn I) : sProp 𝕄) :=
  rows_mono oM c fun i j h1 h2 => by
    show Ac I 3 c i j = Ac I 3 (own i) i j
    rw [own_of c e h1 h2]

theorem g_adv2 (e : Fin 3) : holds I c (Stp.pre (.adv e 2)) ⊢ (holds I c (Stp.post (.adv e 2)) : sProp 𝕄) := by
  show iprop(rows oM c (Sr c e 3 + (0 : Fin 2).val * Qn e 2) (Qn e 2) (Ac I 3 c) ∗ rowsAny oM (pt e 2 c) (Sr c e 3 + (0 : Fin 2).val * Qn e 2) (Qn e 2) ∗ emp)
    ⊢ iprop(rowsAny oM (pt e 2 c) (Sr c e 3) (Hn e 2) ∗ rows oM c (Sr c e 3) (Hn e 2) (Fn I) ∗ emp)
  rw [show Sr c e 3 + (0 : Fin 2).val * Qn e 2 = Sr c e 3 from by show Sr c e 3 + 0 * Qn e 2 = Sr c e 3; omega, ← H_last]
  iintro ⟨H0, H1, -⟩
  isplitl [H1]; · iexact H1
  isplitl [H0]; · iapply (Ac_last I c e); iexact H0
  iempintro

theorem adv_split (e r : Fin 3) (hr : r ≠ 2) : rows oM c (Sr c e (r.val + 1)) (Hn e r) (Ac I (r.val + 1) c)
    ⊢ (iprop(rows oM c (Tr c e (nx r)) (Hn e (nx r)) (Ac I (nx r).val c) ∗ rows oM c (Sr c e ((nx r).val + 1)) (Hn e (nx r)) (Ac I (nx r).val c)) : sProp 𝕄) := by
  have hv : (nx r).val = r.val + 1 := by revert hr; fin_cases r <;> decide
  rw [H_half e r hr, ← hv, S_succ]
  exact rows_halves oM c (kb_le e (nx r) c) _

theorem g_adv0 (e : Fin 3) : holds I c (Stp.pre (.adv e 0)) ⊢ (holds I c (Stp.post (.adv e 0)) : sProp 𝕄) := by
  show iprop(rows oM c (Sr c e 1 + (0 : Fin 2).val * Qn e 0) (Qn e 0) (Ac I 1 c) ∗ rows oM c (Sr c e 1 + (1 : Fin 2).val * Qn e 0) (Qn e 0) (Ac I 1 c)
      ∗ rowsAny oM (pt e 0 c) (Sr c e 1 + (0 : Fin 2).val * Qn e 0) (Qn e 0) ∗ rowsAny oM (pt e 0 c) (Sr c e 1 + (1 : Fin 2).val * Qn e 0) (Qn e 0) ∗ emp)
    ⊢ iprop(rowsAny oM (pt e 0 c) (Sr c e 1) (Hn e 0)
      ∗ rows oM c (Tr c e 1 + (0 : Fin 2).val * Qn e 1) (Qn e 1) (Ac I 1 c) ∗ rows oM c (Tr c e 1 + (1 : Fin 2).val * Qn e 1) (Qn e 1) (Ac I 1 c)
      ∗ rows oM c (Sr c e 2 + (0 : Fin 2).val * Qn e 1) (Qn e 1) (Ac I 1 c) ∗ rows oM c (Sr c e 2 + (1 : Fin 2).val * Qn e 1) (Qn e 1) (Ac I 1 c) ∗ emp)
  iintro ⟨H0, H1, H2, H3, -⟩
  isplitl [H2 H3]
  · iapply (any_unmsgs oM (pt e 0 c) (H_msgs e 0 (by decide))); isplitl [H2] <;> iassumption
  ihave H := (rows_unmsgs oM c (a := Sr c e 1) (H_msgs e 0 (by decide)) (Ac I 1 c)) $$ [H0 H1]
  · isplitl [H0] <;> iassumption
  have hs : rows oM c (Sr c e 1) (Hn e 0) (Ac I 1 c) ⊢ (iprop(rows oM c (Tr c e 1) (Hn e 1) (Ac I 1 c) ∗ rows oM c (Sr c e 2) (Hn e 1) (Ac I 1 c)) : sProp 𝕄) :=
    adv_split I c e 0 (by decide)
  ihave H' := hs $$ H
  icases H' with ⟨Hy, Hx⟩
  ihave Hy' := (rows_msgs oM c (a := Tr c e 1) (H_msgs e 1 (by decide)) (Ac I 1 c)) $$ Hy
  icases Hy' with ⟨H4, H5⟩
  ihave Hx' := (rows_msgs oM c (a := Sr c e 2) (H_msgs e 1 (by decide)) (Ac I 1 c)) $$ Hx
  icases Hx' with ⟨H6, H7⟩
  isplitl [H4]; · iexact H4
  isplitl [H5]; · iexact H5
  isplitl [H6]; · iexact H6
  isplitl [H7]; · iexact H7
  iempintro

theorem g_adv1 (e : Fin 3) : holds I c (Stp.pre (.adv e 1)) ⊢ (holds I c (Stp.post (.adv e 1)) : sProp 𝕄) := by
  show iprop(rows oM c (Sr c e 2 + (0 : Fin 2).val * Qn e 1) (Qn e 1) (Ac I 2 c) ∗ rows oM c (Sr c e 2 + (1 : Fin 2).val * Qn e 1) (Qn e 1) (Ac I 2 c)
      ∗ rowsAny oM (pt e 1 c) (Sr c e 2 + (0 : Fin 2).val * Qn e 1) (Qn e 1) ∗ rowsAny oM (pt e 1 c) (Sr c e 2 + (1 : Fin 2).val * Qn e 1) (Qn e 1) ∗ emp)
    ⊢ iprop(rowsAny oM (pt e 1 c) (Sr c e 2) (Hn e 1)
      ∗ rows oM c (Tr c e 2 + (0 : Fin 2).val * Qn e 2) (Qn e 2) (Ac I 2 c) ∗ rows oM c (Sr c e 3 + (0 : Fin 2).val * Qn e 2) (Qn e 2) (Ac I 2 c) ∗ emp)
  rw [show Sr c e 3 + (0 : Fin 2).val * Qn e 2 = Sr c e 3 from by show Sr c e 3 + 0 * Qn e 2 = Sr c e 3; omega,
    show Tr c e 2 + (0 : Fin 2).val * Qn e 2 = Tr c e 2 from by show Tr c e 2 + 0 * Qn e 2 = Tr c e 2; omega, ← H_last]
  iintro ⟨H0, H1, H2, H3, -⟩
  isplitl [H2 H3]
  · iapply (any_unmsgs oM (pt e 1 c) (H_msgs e 1 (by decide))); isplitl [H2] <;> iassumption
  ihave H := (rows_unmsgs oM c (a := Sr c e 2) (H_msgs e 1 (by decide)) (Ac I 2 c)) $$ [H0 H1]
  · isplitl [H0] <;> iassumption
  have hs : rows oM c (Sr c e 2) (Hn e 1) (Ac I 2 c) ⊢ (iprop(rows oM c (Tr c e 2) (Hn e 2) (Ac I 2 c) ∗ rows oM c (Sr c e 3) (Hn e 2) (Ac I 2 c)) : sProp 𝕄) :=
    adv_split I c e 1 (by decide)
  ihave H' := hs $$ H
  icases H' with ⟨Hy, Hx⟩
  isplitl [Hy]; · iexact Hy
  isplitl [Hx]; · iexact Hx
  iempintro

theorem g_unite (e r : Fin 3) : holds I c (Stp.pre (.unite e r)) ⊢ (holds I c (Stp.post (.unite e r)) : sProp 𝕄) := by
  by_cases h2 : r = 2
  · subst h2
    show iprop(rowsAny (bM e) c ((0 : Fin 2).val * Qn e 2) (Qn e 2 + (Hn e 0 - Qn e 2)) ∗ emp) ⊢ iprop(rowsAny (bM e) c 0 (Hn e 0) ∗ emp)
    rw [show (0 : Fin 2).val * Qn e 2 = 0 from Nat.zero_mul _, show Qn e 2 + (Hn e 0 - Qn e 2) = Hn e 0 from by fin_cases e <;> rfl]
  · have hm : msgs r = [0, 1] := by revert h2; fin_cases r <;> decide
    have hj : jn e r 0 = 0 := by revert h2; fin_cases e <;> fin_cases r <;> decide
    have hn : Hn e 0 = Qn e r + (Qn e r + jn e r 1) := by revert h2; fin_cases e <;> fin_cases r <;> decide
    unfold Stp.pre Stp.post
    dsimp only
    rw [hm]
    show iprop(rowsAny (bM e) c ((0 : Fin 2).val * Qn e r) (Qn e r + jn e r 0) ∗ rowsAny (bM e) c ((1 : Fin 2).val * Qn e r) (Qn e r + jn e r 1) ∗ emp) ⊢ iprop(rowsAny (bM e) c 0 (Hn e 0) ∗ emp)
    rw [hj]
    iintro ⟨H0, H1, -⟩
    isplitl [H0 H1]
    · iapply (buf_untwo (bM e) c hn); isplitl [H0] <;> iassumption
    iempintro

theorem need_released (e r : Fin 3) : at' I c (need e r) ⊢ (Release.released EL (pt e r c, e) (r.val + 1) : sProp 𝕄) := by
  have hA : ∀ n d, relAll n d ⊢ (Release.released EL (d, e) n : sProp 𝕄) := fun n d => by
    unfold relAll
    fin_cases e
    · iintro ⟨H, -, -⟩; iexact H
    · iintro ⟨-, H, -⟩; iexact H
    · iintro ⟨-, -, H⟩; iexact H
  fin_cases r
  · exact hA 1 _
  · exact hA 2 _
  · exact .rfl

instance need_pers (e r : Fin 3) : BI.Persistent (at' I c (need e r) : sProp 𝕄) := by
  fin_cases r
  · show BI.Persistent (relAll 1 (xr (mk e 0) c)); infer_instance
  · show BI.Persistent (relAll 2 (xr (mk e 1) c)); infer_instance
  · show BI.Persistent (Release.released EL (xr (mk e 2) c, e) 3); infer_instance

/-- Taking the partner's landing buffer for a round. -/
theorem g_take (e r : Fin 3) : iprop(Env I K N ∗ holds I c (Stp.pre (.take e r))) ⊢ (|={Set.univ}=> holds I c (Stp.post (.take e r)) : sProp 𝕄) := by
  show iprop(Env I K N ∗ (Release.writeTok EL (pt e r c, e) (r.val + 1) ∗ at' I c (need e r) ∗ emp))
    ⊢ (|={Set.univ}=> iprop(at' I c (need e r) ∗ holds I c ((msgs r).map (.hole e r ·))) : sProp 𝕄)
  iintro ⟨#HE, Hw, #Hn, -⟩
  ihave HS := (env_slot I K N (pt e r c) e) $$ HE
  imod (Release.slot_take EL (Set.mem_univ (N (pt e r c, e))) (r.val + 1)) $$ [HS Hw] with Hb
  · isplitl [HS]; · iexact HS
    isplitr; · iapply (need_released I c e r); iexact Hn
    iexact Hw
  imodintro
  isplitr; · iexact Hn
  by_cases h2 : r = 2
  · subst h2
    have hk : rowsAny (bM e) (pt e 2 c) 0 (Hn e 0) ⊢ (holds I c ((msgs 2).map (.hole e 2 ·)) : sProp 𝕄) := by
      show _ ⊢ iprop(rowsAny (bM e) (pt e 2 c) ((0 : Fin 2).val * Qn e 2) (Qn e 2 + (Hn e 0 - Qn e 2)) ∗ emp)
      rw [show (0 : Fin 2).val * Qn e 2 = 0 from Nat.zero_mul _, show Qn e 2 + (Hn e 0 - Qn e 2) = Hn e 0 from by fin_cases e <;> rfl]
      iintro H
      isplitl [H]; · iexact H
      iempintro
    iapply hk; iexact Hb
  · have hm : msgs r = [0, 1] := by revert h2; fin_cases r <;> decide
    have hj : jn e r 0 = 0 := by revert h2; fin_cases e <;> fin_cases r <;> decide
    have hn : Hn e 0 = Qn e r + (Qn e r + jn e r 1) := by revert h2; fin_cases e <;> fin_cases r <;> decide
    have hk : rowsAny (bM e) (pt e r c) 0 (Hn e 0) ⊢ (holds I c ((msgs r).map (.hole e r ·)) : sProp 𝕄) := by
      rw [hm]
      show _ ⊢ iprop(rowsAny (bM e) (pt e r c) ((0 : Fin 2).val * Qn e r) (Qn e r + jn e r 0) ∗ rowsAny (bM e) (pt e r c) ((1 : Fin 2).val * Qn e r) (Qn e r + jn e r 1) ∗ emp)
      rw [hj]
      iintro H
      ihave H' := (buf_two (bM e) (pt e r c) hn) $$ H
      icases H' with ⟨H0, H1⟩
      isplitl [H0]; · iexact H0
      isplitl [H1]; · iexact H1
      iempintro
    iapply hk; iexact Hb

/-- Giving the own landing buffer over for the next round. -/
theorem g_give (e n : Fin 3) : iprop(Env I K N ∗ holds I c (Stp.pre (.give e n))) ⊢ (|={Set.univ}=> holds I c (Stp.post (.give e n)) : sProp 𝕄) := by
  show iprop(Env I K N ∗ (rowsAny (bM e) c 0 (Hn e 0) ∗ Release.readerAt EL (c, e) n.val ∗ emp))
    ⊢ (|={Set.univ}=> iprop(Release.readerAt EL (c, e) (n.val + 1) ∗ Release.released EL (xr 0 c, e) (n.val + 1) ∗ emp) : sProp 𝕄)
  rw [xr_zero]
  iintro ⟨#HE, Hb, Hr, -⟩
  ihave HS := (env_slot I K N c e) $$ HE
  have hf : iprop(rowsAny (F := F) (bM e) c 0 (Hn e 0) ∗ rowsAny (bM e) c 0 (Hn e 0)) ⊢ (False : sProp 𝕄) :=
    rowsAny_false (bM e) c (by fin_cases e <;> decide) (by fin_cases e <;> decide)
  imod (Release.slot_release EL (Set.mem_univ (N (c, e))) hf n.val) $$ [HS Hr Hb] with ⟨Hr, Hl⟩
  · isplitl [HS]; · iexact HS
    isplitl [Hr]; · iexact Hr
    iexact Hb
  imodintro
  isplitl [Hr]; · iexact Hr
  isplitl [Hl]; · iexact Hl
  iempintro

theorem g_all (n : Fin 4) : holds I c (Stp.pre (.all n)) ⊢ (holds I c (Stp.post (.all n)) : sProp 𝕄) := by
  show iprop(Release.released EL (xr 0 c, (0 : Fin 3)) n.val ∗ Release.released EL (xr 0 c, (1 : Fin 3)) n.val ∗ Release.released EL (xr 0 c, (2 : Fin 3)) n.val ∗ emp)
    ⊢ iprop((Release.released EL (xr 0 c, (0 : Fin 3)) n.val ∗ Release.released EL (xr 0 c, (1 : Fin 3)) n.val ∗ Release.released EL (xr 0 c, (2 : Fin 3)) n.val)
      ∗ Release.released EL (xr 0 c, (0 : Fin 3)) n.val ∗ Release.released EL (xr 0 c, (1 : Fin 3)) n.val ∗ Release.released EL (xr 0 c, (2 : Fin 3)) n.val ∗ emp)
  iintro ⟨#H0, #H1, #H2, -⟩
  isplitr
  · isplitr; · iexact H0
    isplitr; · iexact H1
    iexact H2
  isplitr; · iexact H0
  isplitr; · iexact H1
  isplitr; · iexact H2
  iempintro

/-- Finishing with a semaphore nothing is ever paid to. -/
theorem close_unused (k : Cd) (hk : dts k = ∅) : iprop(Env I K N ∗ at' I c (.pos k)) ⊢ (|={Set.univ}=> at' I c (.zero k) : sProp 𝕄) := by
  show iprop(Env I K N ∗ atPos ER (cell c k) 0 ∅ 0) ⊢ (|={Set.univ}=> semVal (cell c k) 0 : sProp 𝕄)
  have hd : ∀ r, 0 ≤ r → (Rd I).duties (cell c k) r = ∅ := fun r _ => by
    rcases Nat.eq_zero_or_pos r with rfl | h
    · rw [Rd_duties, hk]
    · exact Rd_later I (cell c k) r h
  iintro ⟨#HE, Hat⟩
  ihave HE' := (env_cell I K N c k) $$ HE
  icases HE' with ⟨#Hi, -⟩
  iapply (Rounds.cell_close ER (Rd I) (Set.mem_univ (K (c, k))) (fun h => h) (R := 0) hd)
  isplitr; · iexact Hi
  iexact Hat

theorem g_close (e : Fin 3) : iprop(Env I K N ∗ holds I c (Stp.pre (.close e))) ⊢ (|={Set.univ}=> holds I c (Stp.post (.close e)) : sProp 𝕄) := by
  show iprop(Env I K N ∗ (at' I c (.pos (.sS e 2 1)) ∗ at' I c (.pos (.sR e 2 1)) ∗ emp)) ⊢ (|={Set.univ}=> iprop(at' I c (.zero (.sS e 2 1)) ∗ at' I c (.zero (.sR e 2 1)) ∗ emp) : sProp 𝕄)
  iintro ⟨#HE, H0, H1, -⟩
  imod (close_unused I K N c (.sS e 2 1) rfl) $$ [H0] with H0
  · isplitr; · iexact HE
    iexact H0
  imod (close_unused I K N c (.sR e 2 1) rfl) $$ [H1] with H1
  · isplitr; · iexact HE
    iexact H1
  imodintro
  isplitl [H0]; · iexact H0
  isplitl [H1]; · iexact H1
  iempintro

/-! ## The same as steps -/

section Steps
variable {I K N c} {t : List Stp}

theorem st_start {α : Type} {Q : α → sProp 𝕄} {p : Pg F α} (hk : Hold I K N c t ⊢ wpc c p Q) : Hold I K N c (.start :: t) ⊢ wpc c p Q :=
  st_ghost I K N c .start rfl (ghost_pure I K N c (g_start I c)) hk
theorem st_close {α : Type} {Q : α → sProp 𝕄} {p : Pg F α} (e : Fin 3) (hk : Hold I K N c t ⊢ wpc c p Q) : Hold I K N c (.close e :: t) ⊢ wpc c p Q :=
  st_ghost I K N c (.close e) rfl (g_close I K N c e) hk
theorem st_give {α : Type} {Q : α → sProp 𝕄} {p : Pg F α} (e n : Fin 3) (hk : Hold I K N c t ⊢ wpc c p Q) : Hold I K N c (.give e n :: t) ⊢ wpc c p Q :=
  st_ghost I K N c (.give e n) rfl (g_give I K N c e n) hk
theorem st_all {α : Type} {Q : α → sProp 𝕄} {p : Pg F α} (n : Fin 4) (hk : Hold I K N c t ⊢ wpc c p Q) : Hold I K N c (.all n :: t) ⊢ wpc c p Q :=
  st_ghost I K N c (.all n) rfl (ghost_pure I K N c (g_all I c n)) hk
theorem st_take {α : Type} {Q : α → sProp 𝕄} {p : Pg F α} (e r : Fin 3) (hk : Hold I K N c t ⊢ wpc c p Q) : Hold I K N c (.take e r :: t) ⊢ wpc c p Q :=
  st_ghost I K N c (.take e r) rfl (g_take I K N c e r) hk
theorem st_unite {α : Type} {Q : α → sProp 𝕄} {p : Pg F α} (e r : Fin 3) (hk : Hold I K N c t ⊢ wpc c p Q) : Hold I K N c (.unite e r :: t) ⊢ wpc c p Q :=
  st_ghost I K N c (.unite e r) rfl (ghost_pure I K N c (g_unite I c e r)) hk
theorem st_adv {α : Type} {Q : α → sProp 𝕄} {p : Pg F α} (e r : Fin 3) (hk : Hold I K N c t ⊢ wpc c p Q) : Hold I K N c (.adv e r :: t) ⊢ wpc c p Q :=
  st_ghost I K N c (.adv e r) rfl (ghost_pure I K N c (by
    by_cases h0 : r = 0
    · subst h0; exact g_adv0 I c e
    by_cases h1 : r = 1
    · subst h1; exact g_adv1 I c e
    obtain rfl : r = 2 := by revert h0 h1; fin_cases r <;> decide
    exact g_adv2 I c e)) hk
theorem st_gj {α : Type} {Q : α → sProp 𝕄} {p : Pg F α} (e k : Fin 3) (hk : Hold I K N c t ⊢ wpc c p Q) : Hold I K N c (.gj e k :: t) ⊢ wpc c p Q :=
  st_ghost I K N c (.gj e k) rfl (ghost_pure I K N c (g_gj I c e k)) hk
theorem st_done {α : Type} {Q : α → sProp 𝕄} {p : Pg F α} (hk : Hold I K N c t ⊢ wpc c p Q) : Hold I K N c (.done :: t) ⊢ wpc c p Q :=
  st_ghost I K N c .done rfl (ghost_pure I K N c (g_done I c)) hk

end Steps

end Cert.KernelIdeal.AR

end
-- ==== Proof.KernelIdealLocal.lean ====
/-
The steps that only touch memory: reading the staged arguments, the guarded products, the additions.
-/
module

public import proofs.«01_k».proof.Proof.KernelIdealGhost

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : In F) (K : Dev nD × Cd → ℕ) (N : Dev nD × Fin 3 → ℕ) (c : Dev nD)

/-! ## Reading the staged arguments -/

/-- Looking at the staged arguments before a step that uses them. -/
theorem st_peek {t : List Stp} (s : Stp) (hs : ∃ l, s.pre = .ins :: l) {X Y : sProp 𝕄}
    (h : at' I c .ins ⊢ iprop((at' I c .ins -∗ X) -∗ Y)) (hk : Hold I K N c (s :: t) ⊢ X) : Hold I K N c (s :: t) ⊢ Y := by
  obtain ⟨l₀, hl₀⟩ := hs
  unfold Hold at hk ⊢
  iintro ⟨#HE, %l, %hl, Ho, H⟩
  have hm : Atom.ins ∈ l := by
    have hl' := hl
    unfold run at hl'
    simp only [Bool.and_eq_true] at hl'
    have h1 := hl'.1.1
    rw [hl₀] at h1
    unfold sub at h1
    rw [Bool.and_eq_true] at h1
    exact List.elem_iff.mp h1.1
  have hp := holds_perm I c (List.perm_cons_erase hm)
  have hp' := holds_perm I c (List.perm_cons_erase hm).symm
  ihave H' := hp $$ H
  ihave H' := (show holds I c (.ins :: l.erase .ins) ⊢ iprop(at' I c .ins ∗ holds I c (l.erase .ins)) from .rfl) $$ H'
  icases H' with ⟨Hi, Hr⟩
  iapply h $$ Hi
  iintro Hi
  iapply hk
  isplitr; · iexact HE
  iexists l
  isplitr; · ipureintro; exact hl
  isplitl [Ho]; · iexact Ho
  iapply hp'
  iapply (holds_cons I c .ins (l.erase .ins))
  isplitl [Hi] <;> iassumption

/-- A load from a staged argument reads its contents. -/
theorem wp_load_arg {α : Type} {Q : α → sProp 𝕄} {s : Shape} {ty : EltTy} {cs : CoreSpace} {M : Memref sig .tc cs s ty} {v : s.Idx → Elt F ty} {r : Rect s}
    {hl : M.view.LoadsAt r.toLoadRect} {kk : (r.shape.Idx → Elt F ty) → Pg F α} :
    (arg M c v : sProp 𝕄) ⊢ iprop((arg M c v -∗ wpc c (kk fun i => v (r.emb i)) Q) -∗ wpc c (.op (.load M r.toLoadRect hl) kk) Q) := by
  unfold arg
  iintro ⟨%f, %hf, H⟩ Hk
  subst hf
  iapply (wp_load_rect 𝒱₀ (c : Thread nD τ) none Set.univ (m := M) (r := r) (S := Finset.univ) (Finset.subset_univ _)) $$ H
  iintro H
  iapply Hk
  iexists f
  isplitr; · ipureintro; rfl
  iexact H

/-! ## The product of a half of an engine's rows -/

theorem engine_of_half (e : Fin 3) (b : Fin 2) (i : ℕ) (hi : i < Hn e 0) :
    eng (base e + b.val * Hn e 0 + i) = e ∧ hf (base e + b.val * Hn e 0 + i) = b := by
  have he : eng (base e + b.val * Hn e 0 + i) = e := eng_of e (by omega) (by fin_cases b <;> simp <;> omega)
  refine ⟨he, ?_⟩
  unfold hf
  rw [he]
  fin_cases b
  · exact if_pos (by simp; omega)
  · exact if_neg (by simp)

/-- The load of the rows of `x`, the load of what the result holds there, and the store of their scaled product. -/
theorem wp_fill {α : Type} {Q : α → sProp 𝕄} (e : Fin 3) (b : Fin 2) {n a : ℕ} (hn : n = Hn e 0) (ha : a = base e + b.val * Hn e 0)
    {r : Rect S4096x512} {hl : (Memref.whole cc0_stg0_0).view.LoadsAt r.toLoadRect}
    {off : Fin 2 → ℕ} (hoff : off = ![a, 0]) {inb : ∀ x, off x + (Sh n).size x ≤ (Sh 4096).size x} {hl'}
    {pay : (r.shape.Idx → Elt F .i8) → (Sh n).Idx → Elt F .f32}
    (hpay : ∀ i : (Sh n).Idx, blk I c e b (a + (i 0).val) (i 1).val = pay (fun j => I.x c (r.emb j)) i) {hx hm}
    {kk : PUnit → Pg F α} :
    iprop(at' I c .ins ∗ rowsAny oM c (base e + b.val * Hn e 0) (Hn e 0))
      ⊢ (iprop((at' I c .ins ∗ rows oM c (base e + b.val * Hn e 0) (Hn e 0) (Ac I 0 c) -∗ wpc c (kk ⟨⟩) Q)
        -∗ wpc c (.op (.load (Memref.whole cc0_stg0_0) r.toLoadRect hl) fun v =>
            .op (.load oM (Rect.unit (s := Sh 4096) off (Sh n).size inb).toLoadRect hl') fun _ =>
            .op (.store oM (Rect.unit (s := Sh 4096) off (Sh n).size inb) (pay v) Finset.univ hx hm) kk) Q) : sProp 𝕄) := by
  subst hn ha
  iintro ⟨Hi, Hr⟩ Hk
  ihave Hi' := (show at' I c .ins ⊢ iprop(arg (Memref.whole cc0_stg0_0) c (I.x c) ∗ arg (Memref.whole cc0_stg1_0) c (I.w c) ∗ arg (Memref.whole cc0_stg2_0) c (I.s1 c) ∗ arg (Memref.whole cc0_stg3_0) c (I.s2 c)) from .rfl) $$ Hi
  icases Hi' with ⟨Hx, Hw⟩
  iapply (wp_load_arg c) $$ Hx
  iintro Hx
  ihave Hr' := (any_rows (F := F) oM c _ _) $$ Hr
  icases Hr' with ⟨%A₀, Hr⟩
  iapply (wp_load_rows (M := oM) (c := c) (A := A₀) hoff (Nat.le_refl _) (Nat.le_refl _)) $$ Hr
  iintro Hr
  ihave Hr' := (rows_any oM c _ _ A₀) $$ Hr
  iapply (wp_store_rows (M := oM) (c := c) (A := Ac I 0 c) hoff (fun i => (hpay i).symm.trans (by
    have h := engine_of_half e b (i 0).val (i 0).isLt
    show _ = blk I c (eng _) (hf _) _ _
    rw [h.1, h.2]))) $$ Hr'
  iintro Hr
  iapply Hk
  isplitl [Hx Hw]
  · iapply (show iprop(arg (Memref.whole cc0_stg0_0) c (I.x c) ∗ arg (Memref.whole cc0_stg1_0) c (I.w c) ∗ arg (Memref.whole cc0_stg2_0) c (I.s1 c) ∗ arg (Memref.whole cc0_stg3_0) c (I.s2 c)) ⊢ at' I c .ins from .rfl)
    isplitl [Hx] <;> iassumption
  iexact Hr

/-- What the second guarded product leaves, as the rows of the next steps. -/
theorem mid_rows (e : Fin 3) (b : Fin 2) : rows oM c (base e + hb c e b * Hn e 0) (Hn e 0) (Ac I 0 c)
    ⊢ (holds I c (if b = 0 then [.y e 0 0, .y e 0 1] else [.x0 e 0 0, .x0 e 0 1]) : sProp 𝕄) := by
  fin_cases b
  · show rows oM c (Tr c e 0) (Hn e 0) (Ac I 0 c) ⊢ iprop(rows oM c (Tr c e 0 + (0 : Fin 2).val * Qn e 0) (Qn e 0) (Ac I 0 c) ∗ rows oM c (Tr c e 0 + (1 : Fin 2).val * Qn e 0) (Qn e 0) (Ac I 0 c) ∗ emp)
    iintro H
    ihave H' := (rows_msgs oM c (a := Tr c e 0) (H_two e) (Ac I 0 c)) $$ H
    icases H' with ⟨H, H'⟩
    isplitl [H]; · iexact H
    isplitl [H']; · iexact H'
    iempintro
  · show rows oM c (Sr c e 1) (Hn e 0) (Ac I 0 c) ⊢ iprop(rows oM c (Sr c e 1 + (0 : Fin 2).val * Qn e 0) (Qn e 0) (Ac I 0 c) ∗ rows oM c (Sr c e 1 + (1 : Fin 2).val * Qn e 0) (Qn e 0) (Ac I 0 c) ∗ emp)
    iintro H
    ihave H' := (rows_msgs oM c (a := Sr c e 1) (H_two e) (Ac I 0 c)) $$ H
    icases H' with ⟨H, H'⟩
    isplitl [H]; · iexact H
    isplitl [H']; · iexact H'
    iempintro

theorem hb_le (e : Fin 3) (b : Fin 2) : hb c e b = 0 ∨ hb c e b = 1 := by
  unfold hb
  rcases kb_le e 0 c with h | h <;> rw [h] <;> by_cases hb : b = 0 <;> simp [hb]

section Steps
variable {I K N c} {t : List Stp}

/-- The first guarded product: of the lower half, done when that is the half wanted. -/
theorem st_mmA {α : Type} {Q : α → sProp 𝕄} (e : Fin 3) (b : Fin 2) {g : BitVec 1} (hg : g = 1#1 ↔ hb c e b = 0)
    {n a : ℕ} (hn : n = Hn e 0) (ha : a = base e + (0 : Fin 2).val * Hn e 0)
    {r : Rect S4096x512} {hl : g = 1#1 → (Memref.whole cc0_stg0_0).view.LoadsAt r.toLoadRect}
    {off : Fin 2 → ℕ} (hoff : off = ![a, 0]) {inb : ∀ x, off x + (Sh n).size x ≤ (Sh 4096).size x} {hl' : g = 1#1 → _}
    {pay : (r.shape.Idx → Elt F .i8) → (Sh n).Idx → Elt F .f32}
    (hpay : ∀ i : (Sh n).Idx, blk I c e 0 (a + (i 0).val) (i 1).val = pay (fun j => I.x c (r.emb j)) i) {hx : g = 1#1 → _} {hm : g = 1#1 → _}
    {p : Pg F α} (hk : Hold I K N c t ⊢ wpc c p Q) :
    Hold I K N c (.mmA e b :: t) ⊢ wpc c (if h : g = 1#1 then
        .op (.load (Memref.whole cc0_stg0_0) r.toLoadRect (hl h)) fun v =>
            .op (.load oM (Rect.unit (s := Sh 4096) off (Sh n).size inb).toLoadRect (hl' h)) fun _ =>
            .op (.store oM (Rect.unit (s := Sh 4096) off (Sh n).size inb) (pay v) Finset.univ (hx h) (hm h)) fun _ => p
        else p) Q := by
  refine st_local I K N c (.mmA e b) rfl ?_ hk
  show iprop(at' I c .ins ∗ rowsAny oM c (base e + hb c e b * Hn e 0) (Hn e 0) ∗ emp)
    ⊢ iprop(((at' I c .ins ∗ (if hb c e b = 0 then rows oM c (base e + 0 * Hn e 0) (Hn e 0) (Ac I 0 c) else rowsAny oM c (base e + 1 * Hn e 0) (Hn e 0)) ∗ emp) -∗ _) -∗ _)
  by_cases h : g = 1#1
  · rw [dif_pos h, if_pos (hg.mp h), hg.mp h]
    iintro ⟨Hi, Hr, -⟩ Hk
    iapply (wp_fill I c e 0 hn ha hoff hpay (kk := fun _ => p)) $$ [Hi Hr]
    · isplitl [Hi]; · iexact Hi
      iexact Hr
    iintro ⟨Hi, Hr⟩
    iapply Hk
    isplitl [Hi]; · iexact Hi
    isplitl [Hr]; · iexact Hr
    iempintro
  · have h0 : ¬ hb c e b = 0 := fun h' => h (hg.mpr h')
    have h1 : hb c e b = 1 := (hb_le c e b).resolve_left h0
    rw [dif_neg h, if_neg h0, h1]
    iintro H Hk
    iapply Hk; iexact H

/-- The second: of the upper half, done when the other was not. -/
theorem st_mmB {α : Type} {Q : α → sProp 𝕄} (e : Fin 3) (b : Fin 2) {g : BitVec 1} (hg : g = 1#1 ↔ hb c e b = 1)
    {n a : ℕ} (hn : n = Hn e 0) (ha : a = base e + (1 : Fin 2).val * Hn e 0)
    {r : Rect S4096x512} {hl : g = 1#1 → (Memref.whole cc0_stg0_0).view.LoadsAt r.toLoadRect}
    {off : Fin 2 → ℕ} (hoff : off = ![a, 0]) {inb : ∀ x, off x + (Sh n).size x ≤ (Sh 4096).size x} {hl' : g = 1#1 → _}
    {pay : (r.shape.Idx → Elt F .i8) → (Sh n).Idx → Elt F .f32}
    (hpay : ∀ i : (Sh n).Idx, blk I c e 1 (a + (i 0).val) (i 1).val = pay (fun j => I.x c (r.emb j)) i) {hx : g = 1#1 → _} {hm : g = 1#1 → _}
    {p : Pg F α} (hk : Hold I K N c t ⊢ wpc c p Q) :
    Hold I K N c (.mmB e b :: t) ⊢ wpc c (if h : g = 1#1 then
        .op (.load (Memref.whole cc0_stg0_0) r.toLoadRect (hl h)) fun v =>
            .op (.load oM (Rect.unit (s := Sh 4096) off (Sh n).size inb).toLoadRect (hl' h)) fun _ =>
            .op (.store oM (Rect.unit (s := Sh 4096) off (Sh n).size inb) (pay v) Finset.univ (hx h) (hm h)) fun _ => p
        else p) Q := by
  refine st_local I K N c (.mmB e b) rfl ?_ hk
  show iprop(at' I c .ins ∗ (if hb c e b = 0 then rows oM c (base e + 0 * Hn e 0) (Hn e 0) (Ac I 0 c) else rowsAny oM c (base e + 1 * Hn e 0) (Hn e 0)) ∗ emp)
    ⊢ iprop(((at' I c .ins ∗ holds I c (if b = 0 then [.y e 0 0, .y e 0 1] else [.x0 e 0 0, .x0 e 0 1])) -∗ _) -∗ _)
  have hmid := mid_rows I c e b
  by_cases h : g = 1#1
  · have h1 := hg.mp h
    have h0 : ¬ hb c e b = 0 := by omega
    rw [dif_pos h, if_neg h0]
    rw [h1] at hmid
    iintro ⟨Hi, Hr, -⟩ Hk
    iapply (wp_fill I c e 1 hn ha hoff hpay (kk := fun _ => p)) $$ [Hi Hr]
    · isplitl [Hi]; · iexact Hi
      iexact Hr
    iintro ⟨Hi, Hr⟩
    iapply Hk
    isplitl [Hi]; · iexact Hi
    iapply hmid; iexact Hr
  · have h0 : hb c e b = 0 := (hb_le c e b).resolve_right fun h' => h (hg.mpr h')
    rw [dif_neg h, if_pos h0]
    rw [h0] at hmid
    iintro ⟨Hi, Hr, -⟩ Hk
    iapply Hk
    isplitl [Hi]; · iexact Hi
    iapply hmid; iexact Hr

/-- The addition of what a message brought. -/
theorem st_acc {α : Type} {Q : α → sProp 𝕄} (e r : Fin 3) (j : Fin 2) (hj : j.val * Qn e r + Qn e r ≤ Hn e r) {n : ℕ} (hn : n = Qn e r)
    {off off' : Fin 2 → ℕ} (hoff : off = ![Sr c e (r.val + 1) + j.val * Qn e r, 0]) (hoff' : off' = ![j.val * Qn e r, 0])
    {inb : ∀ x, off x + (Sh n).size x ≤ (Sh 4096).size x} {inb' : ∀ x, off' x + (Sh n).size x ≤ (Sh (Hn e 0)).size x} {hl hl' hl''}
    {pay : ((Sh n).Idx → Elt F .f32) → ((Sh n).Idx → Elt F .f32) → (Sh n).Idx → Elt F .f32}
    (hpay : ∀ x y i, pay x y i = FloatOps.addf (x i) (y i)) {hx hm} {kk : PUnit → Pg F α} (hk : Hold I K N c t ⊢ wpc c (kk ⟨⟩) Q) :
    Hold I K N c (.acc e r j :: t) ⊢ wpc c (.op (.load oM (Rect.unit (s := Sh 4096) off (Sh n).size inb).toLoadRect hl) fun x =>
      .op (.load (bM e) (Rect.unit (s := Sh (Hn e 0)) off' (Sh n).size inb').toLoadRect hl') fun y =>
      .op (.load oM (Rect.unit (s := Sh 4096) off (Sh n).size inb).toLoadRect hl'') fun _ =>
      .op (.store oM (Rect.unit (s := Sh 4096) off (Sh n).size inb) (pay x y) Finset.univ hx hm) kk) Q := by
  subst hn
  refine st_local I K N c (.acc e r j) rfl ?_ hk
  show iprop((rows (bM e) c (j.val * Qn e r) (Qn e r) (fun i col => Ac I r.val (pt e r c) (Sr c e (r.val + 1) + i) col) ∗ rowsAny (bM e) c (j.val * Qn e r + Qn e r) (jn e r j))
      ∗ rows oM c (Sr c e (r.val + 1) + j.val * Qn e r) (Qn e r) (Ac I r.val c) ∗ emp)
    ⊢ iprop(((rowsAny (bM e) c (j.val * Qn e r) (Qn e r + jn e r j) ∗ rows oM c (Sr c e (r.val + 1) + j.val * Qn e r) (Qn e r) (Ac I (r.val + 1) c) ∗ emp) -∗ _) -∗ _)
  iintro ⟨⟨Hg, Hj⟩, Hx, -⟩ Hk
  iapply (wp_load_rows (M := oM) (c := c) hoff (Nat.le_refl _) (Nat.le_refl _)) $$ Hx
  iintro Hx
  iapply (wp_load_rows (M := bM e) (c := c) hoff' (Nat.le_refl _) (Nat.le_refl _)) $$ Hg
  iintro Hg
  iapply (wp_load_rows (M := oM) (c := c) hoff (Nat.le_refl _) (Nat.le_refl _)) $$ Hx
  iintro Hx
  ihave Hx' := (rows_any oM c _ _ (Ac I r.val c)) $$ Hx
  iapply (wp_store_rows (M := oM) (c := c) (A := Ac I (r.val + 1) c) hoff (fun i => (hpay _ _ i).trans (by
    have hi : (i 0).val < Qn e r := (i 0).isLt
    have hg := S_ge c e r
    have he : eng (Sr c e (r.val + 1) + j.val * Qn e r + (i 0).val) = e := eng_of e (by omega) (by omega)
    show _ = FloatOps.addf (Ac I r.val c _ _) (Ac I r.val (xr (mk (eng _) ⟨r.val % 3, _⟩) c) _ _)
    have hr : (⟨r.val % 3, Nat.mod_lt _ (by decide)⟩ : Fin 3) = r := Fin.ext (Nat.mod_eq_of_lt r.isLt)
    rw [he, hr]
    congr 2
    omega))) $$ Hx'
  iintro Hx
  iapply Hk
  isplitl [Hg Hj]
  · iapply (any_join (bM e) c (j.val * Qn e r) (Qn e r) (jn e r j))
    isplitl [Hg]; · iapply (rows_any (bM e) c _ _ _); iexact Hg
    iexact Hj
  isplitl [Hx]; · iexact Hx
  iempintro

end Steps

end Cert.KernelIdeal.AR

end
-- ==== Proof.KernelIdealParts.lean ====
/-
The kernel's windows against the plan: each takes a device from one stretch of the plan to the next. First the products, the
opening handshake and the sends of round 0.
-/
module

public import proofs.«01_k».proof.Proof.KernelIdealAddr
public import proofs.«01_k».proof.Proof.KernelIdealSends
public import proofs.«01_k».proof.Proof.KernelIdealWaits
public import proofs.«01_k».proof.Proof.KernelIdealLocal

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

set_option maxRecDepth 8000

/-- A window of the body at the kernel's own buffers and semaphores. -/
@[reducible] def at_ {β : Sort*} (f : ∀ (arg0 : Memref sig .tc .vmem S4096x512 .i8) (_ : arg0.IsWhole) (arg1 : Memref sig .tc .vmem S512x2048 .i8) (_ : arg1.IsWhole)
    (arg2 : Memref sig .tc .smem S1 .f32) (_ : arg2.IsWhole) (arg3 : Memref sig .tc .smem S1 .f32) (_ : arg3.IsWhole)
    (arg4 : Memref sig .tc .vmem S4096x2048 .f32) (_ : arg4.IsWhole) (arg5 : Memref sig .tc .vmem S704x2048 .f32) (_ : arg5.IsWhole)
    (arg6 : Memref sig .tc .vmem S672x2048 .f32) (_ : arg6.IsWhole) (arg7 : Memref sig .tc .vmem S672x2048 .f32) (_ : arg7.IsWhole)
    (_ _ : DmaSems sig S3x3x2) (_ _ : DmaSems sig S3x3) (_ : Sems sig S3), β) : β :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 cc0_scratch6 cc0_scratch7

variable (I : In F) (K : Dev nD × Cd → ℕ) (N : Dev nD × Fin 3 → ℕ) (c : Dev nD) {t : List Stp}

/-- A sum in float is taken element by element. -/
theorem pay_add {n : ℕ} (h) (x y : (Sh n).Idx → Elt F .f32) (i : (Sh n).Idx) : (addf (shapeCast (Sh n) x h) y : FVec F (Sh n) .f32) i = FloatOps.addf (x i) (y i) := by
  have e : shapeCast (Sh n) x h = x := funext fun k => congrArg x (Shape.reshapeEquiv_self h k)
  rw [e]
  rfl

/-! Each half of each engine's product, as the kernel computes it. -/
theorem fill_0_0 (i : (Sh 704).Idx) : blk I c 0 0 (0 + (i 0).val) (i 1).val
    = k0_pay4 (sc I c) (wt I c) (fun j => I.x c ((Rect.unit (s := S4096x512) ![0, 0] S704x512.size inb_S4096x512_S704x512_0_0).emb j)) i :=
  blkAt_self (by decide) (k0_pay4 (sc I c) (wt I c)) 0 _ (I.x c) i
theorem fill_0_1 (i : (Sh 704).Idx) : blk I c 0 1 (704 + (i 0).val) (i 1).val
    = k0_pay4 (sc I c) (wt I c) (fun j => I.x c ((Rect.unit (s := S4096x512) ![704, 0] S704x512.size inb_S4096x512_S704x512_704_0).emb j)) i :=
  blkAt_self (by decide) (k0_pay4 (sc I c) (wt I c)) 704 _ (I.x c) i
theorem fill_1_0 (i : (Sh 672).Idx) : blk I c 1 0 (1408 + (i 0).val) (i 1).val
    = k0_pay5 (sc I c) (wt I c) (fun j => I.x c ((Rect.unit (s := S4096x512) ![1408, 0] S672x512.size inb_S4096x512_S672x512_1408_0).emb j)) i :=
  blkAt_self (by decide) (k0_pay5 (sc I c) (wt I c)) 1408 _ (I.x c) i
theorem fill_1_1 (i : (Sh 672).Idx) : blk I c 1 1 (2080 + (i 0).val) (i 1).val
    = k0_pay5 (sc I c) (wt I c) (fun j => I.x c ((Rect.unit (s := S4096x512) ![2080, 0] S672x512.size inb_S4096x512_S672x512_2080_0).emb j)) i :=
  blkAt_self (by decide) (k0_pay5 (sc I c) (wt I c)) 2080 _ (I.x c) i
theorem fill_2_0 (i : (Sh 672).Idx) : blk I c 2 0 (2752 + (i 0).val) (i 1).val
    = k0_pay5 (sc I c) (wt I c) (fun j => I.x c ((Rect.unit (s := S4096x512) ![2752, 0] S672x512.size inb_S4096x512_S672x512_2752_0).emb j)) i :=
  blkAt_self (by decide) (k0_pay5 (sc I c) (wt I c)) 2752 _ (I.x c) i
theorem fill_2_1 (i : (Sh 672).Idx) : blk I c 2 1 (3424 + (i 0).val) (i 1).val
    = k0_pay5 (sc I c) (wt I c) (fun j => I.x c ((Rect.unit (s := S4096x512) ![3424, 0] S672x512.size inb_S4096x512_S672x512_3424_0).emb j)) i :=
  blkAt_self (by decide) (k0_pay5 (sc I c) (wt I c)) 3424 _ (I.x c) i

theorem ret_of {α : Type} {Q : α → sProp 𝕄} {a : α} {P : sProp 𝕄} (h : P ⊢ Q a) : P ⊢ wpc c (.ret a : Pg F α) Q := by
  unfold wpc
  rw [wp_ret]
  iintro H
  imodintro
  iapply h $$ H

/-! ## The words the windows branch on -/

def w2 (c : Dev nD) : BitVec 32 := Scalar.remsi (Scalar.divsi (Dev.word c) 1#32) 8#32
def w15 (c : Dev nD) : BitVec 32 := Scalar.andi (Scalar.xori (w2 c) (Scalar.shrsi (w2 c) 1#32)) 1#32
def w26 (c : Dev nD) : BitVec 32 := Scalar.shrsi (w2 c) 1#32
def w27 (c : Dev nD) : BitVec 32 := Scalar.andi (w26 c) 1#32
def w40 (c : Dev nD) : BitVec 32 := Scalar.andi (Scalar.shrsi (w2 c) 2#32) 1#32

/-- A branch's condition as the kernel spells it. -/
abbrev taken (v : BitVec 1) : BitVec 1 := Scalar.cmpi .ne (Scalar.extui v : BitVec 32) 0#32

theorem taken_0_lo : ∀ c : Dev nD, taken (Scalar.cmpi .eq (w15 c) 1#32) = 1#1 ↔ hb c 0 0 = 0 := by decide +kernel
theorem taken_0_hi : ∀ c : Dev nD, taken (Scalar.xori (Scalar.cmpi .eq (w15 c) 1#32) 1#1) = 1#1 ↔ hb c 0 0 = 1 := by decide +kernel
theorem taken_1_lo : ∀ c : Dev nD, taken (Scalar.cmpi .eq (w27 c) 1#32) = 1#1 ↔ hb c 1 0 = 0 := by decide +kernel
theorem taken_1_hi : ∀ c : Dev nD, taken (Scalar.xori (Scalar.cmpi .eq (w27 c) 1#32) 1#1) = 1#1 ↔ hb c 1 0 = 1 := by decide +kernel
theorem taken_2_lo : ∀ c : Dev nD, taken (Scalar.cmpi .eq (w40 c) 1#32) = 1#1 ↔ hb c 2 0 = 0 := by decide +kernel
theorem taken_2_hi : ∀ c : Dev nD, taken (Scalar.xori (Scalar.cmpi .eq (w40 c) 1#32) 1#1) = 1#1 ↔ hb c 2 0 = 1 := by decide +kernel
theorem kept_0_lo : ∀ c : Dev nD, taken (Scalar.cmpi .eq (w15 c) 0#32) = 1#1 ↔ hb c 0 1 = 0 := by decide +kernel
theorem kept_0_hi : ∀ c : Dev nD, taken (Scalar.xori (Scalar.cmpi .eq (w15 c) 0#32) 1#1) = 1#1 ↔ hb c 0 1 = 1 := by decide +kernel
theorem kept_1_lo : ∀ c : Dev nD, taken (Scalar.cmpi .eq (w27 c) 0#32) = 1#1 ↔ hb c 1 1 = 0 := by decide +kernel
theorem kept_1_hi : ∀ c : Dev nD, taken (Scalar.xori (Scalar.cmpi .eq (w27 c) 0#32) 1#1) = 1#1 ↔ hb c 1 1 = 1 := by decide +kernel
theorem kept_2_lo : ∀ c : Dev nD, taken (Scalar.cmpi .eq (w40 c) 0#32) = 1#1 ↔ hb c 2 1 = 0 := by decide +kernel
theorem kept_2_hi : ∀ c : Dev nD, taken (Scalar.xori (Scalar.cmpi .eq (w40 c) 0#32) 1#1) = 1#1 ↔ hb c 2 1 = 1 := by decide +kernel

/-! ## Reading the scales and the weights -/

section Reads
variable {I K N c}

theorem st_s1 {α : Type} {Q : α → sProp 𝕄} {e : Fin 3} {b : Fin 2} {r : Rect S1} {hl} {kk : (r.shape.Idx → Elt F .f32) → Pg F α}
    (hk : Hold I K N c (.mmA e b :: t) ⊢ wpc c (kk fun i => I.s1 c (r.emb i)) Q) :
    Hold I K N c (.mmA e b :: t) ⊢ wpc c (.op (.load (Memref.whole cc0_stg2_0) r.toLoadRect hl) kk) Q :=
  st_peek I K N c (.mmA e b) ⟨_, rfl⟩ (by
    show iprop(arg (Memref.whole cc0_stg0_0) c (I.x c) ∗ arg (Memref.whole cc0_stg1_0) c (I.w c) ∗ arg (Memref.whole cc0_stg2_0) c (I.s1 c) ∗ arg (Memref.whole cc0_stg3_0) c (I.s2 c))
      ⊢ iprop(((arg (Memref.whole cc0_stg0_0) c (I.x c) ∗ arg (Memref.whole cc0_stg1_0) c (I.w c) ∗ arg (Memref.whole cc0_stg2_0) c (I.s1 c) ∗ arg (Memref.whole cc0_stg3_0) c (I.s2 c)) -∗ _) -∗ _)
    iintro ⟨H0, H1, H2, H3⟩ Hk
    iapply (wp_load_arg c) $$ H2
    iintro H2
    iapply Hk
    isplitl [H0]; · iexact H0
    isplitl [H1]; · iexact H1
    isplitl [H2]; · iexact H2
    iexact H3) hk

theorem st_s2 {α : Type} {Q : α → sProp 𝕄} {e : Fin 3} {b : Fin 2} {r : Rect S1} {hl} {kk : (r.shape.Idx → Elt F .f32) → Pg F α}
    (hk : Hold I K N c (.mmA e b :: t) ⊢ wpc c (kk fun i => I.s2 c (r.emb i)) Q) :
    Hold I K N c (.mmA e b :: t) ⊢ wpc c (.op (.load (Memref.whole cc0_stg3_0) r.toLoadRect hl) kk) Q :=
  st_peek I K N c (.mmA e b) ⟨_, rfl⟩ (by
    show iprop(arg (Memref.whole cc0_stg0_0) c (I.x c) ∗ arg (Memref.whole cc0_stg1_0) c (I.w c) ∗ arg (Memref.whole cc0_stg2_0) c (I.s1 c) ∗ arg (Memref.whole cc0_stg3_0) c (I.s2 c))
      ⊢ iprop(((arg (Memref.whole cc0_stg0_0) c (I.x c) ∗ arg (Memref.whole cc0_stg1_0) c (I.w c) ∗ arg (Memref.whole cc0_stg2_0) c (I.s1 c) ∗ arg (Memref.whole cc0_stg3_0) c (I.s2 c)) -∗ _) -∗ _)
    iintro ⟨H0, H1, H2, H3⟩ Hk
    iapply (wp_load_arg c) $$ H3
    iintro H3
    iapply Hk
    isplitl [H0]; · iexact H0
    isplitl [H1]; · iexact H1
    isplitl [H2]; · iexact H2
    iexact H3) hk

theorem st_w {α : Type} {Q : α → sProp 𝕄} {e : Fin 3} {b : Fin 2} {r : Rect S512x2048} {hl} {kk : (r.shape.Idx → Elt F .i8) → Pg F α}
    (hk : Hold I K N c (.mmA e b :: t) ⊢ wpc c (kk fun i => I.w c (r.emb i)) Q) :
    Hold I K N c (.mmA e b :: t) ⊢ wpc c (.op (.load (Memref.whole cc0_stg1_0) r.toLoadRect hl) kk) Q :=
  st_peek I K N c (.mmA e b) ⟨_, rfl⟩ (by
    show iprop(arg (Memref.whole cc0_stg0_0) c (I.x c) ∗ arg (Memref.whole cc0_stg1_0) c (I.w c) ∗ arg (Memref.whole cc0_stg2_0) c (I.s1 c) ∗ arg (Memref.whole cc0_stg3_0) c (I.s2 c))
      ⊢ iprop(((arg (Memref.whole cc0_stg0_0) c (I.x c) ∗ arg (Memref.whole cc0_stg1_0) c (I.w c) ∗ arg (Memref.whole cc0_stg2_0) c (I.s1 c) ∗ arg (Memref.whole cc0_stg3_0) c (I.s2 c)) -∗ _) -∗ _)
    iintro ⟨H0, H1, H2, H3⟩ Hk
    iapply (wp_load_arg c) $$ H1
    iintro H1
    iapply Hk
    isplitl [H0]; · iexact H0
    isplitl [H1]; · iexact H1
    isplitl [H2]; · iexact H2
    iexact H3) hk

end Reads

/-- The whole weights, read as a block. -/
theorem all_w (v : S512x2048.Idx → Elt F .i8) :
    (fun i => v ((Rect.unit (s := S512x2048) ![0, 0] S512x2048.size inb_S512x2048_S512x2048_0_0).emb i)) = v :=
  funext fun i => congrArg v (funext fun a => Fin.ext (by
    rw [Rect.emb_apply]
    fin_cases a
    · show 0 + 1 * (i 0).val = (i 0).val; omega
    · show 0 + 1 * (i 1).val = (i 1).val; omega))

/-- A one-element array has one index. -/
theorem one_idx (i : S1.Idx) : i = z1 := funext fun a => Fin.ext (by
  have h1 := (i a).isLt
  have h2 := (z1 a).isLt
  have h3 : S1.size a = 1 := by fin_cases a; rfl
  omega)

/-! ## The windows -/

theorem part1 : Hold I K N c (q1 ++ t) ⊢ wpc c (at_ (k0_part1 (F := F)))
    (fun r => iprop(⌜r.1 = c ∧ r.2.1 = w2 c ∧ r.2.2.1 = w15 c ∧ r.2.2.2.2.2.2.2.2.1 = w26 c ∧ r.2.2.2.2.2.2.2.2.2 = 1#32⌝ ∗ Hold I K N c t)) := by
  simp only [at_, k0_part1_eq_skeleton]
  unfold k0_part1_skel
  simp only [q1, List.cons_append, List.nil_append, Prog.lift, Prog.bind_op, Prog.bind_ret, Prog.pure_eq_ret, semSignalWord, semWaitWord, wpc, wp_deviceId]
  refine st_sigBar 0 (dev_1 c) ?_
  refine st_sigBar 1 (dev_2 c) ?_
  refine st_sigBar 2 (dev_3 c) ?_
  refine st_wtBar (by decide) ?_
  refine ret_of c ?_
  iintro H
  isplitr
  · ipureintro; exact ⟨rfl, rfl, rfl, rfl, rfl⟩
  iexact H

theorem part2 : Hold I K N c (q2 ++ t) ⊢ wpc c (at_ (k0_part2 (F := F)) (w2 c) (w15 c) (w26 c) 1#32)
    (fun r => iprop(⌜r.1 = w27 c ∧ r.2.2.2.2.2.2.1 = w40 c ∧ r.2.2.2.2.2.2.2.2.2.2.2.2.1 = sc I c ∧ r.2.2.2.2.2.2.2.2.2.2.2.2.2.1 = wt I c
      ∧ r.2.2.2.2.2.2.2.2.2.2.2.2.2.2.1 = Scalar.cmpi .eq (w15 c) 1#32 ∧ r.2.2.2.2.2.2.2.2.2.2.2.2.2.2.2 = 1#1⌝ ∗ Hold I K N c t)) := by
  simp only [at_, k0_part2_eq_skeleton]
  unfold k0_part2_skel
  simp only [q2, List.cons_append, List.nil_append, Prog.lift, Prog.bind_op, Prog.bind_ret, Prog.pure_eq_ret, smemLoad, smemLoadElt]
  refine st_s1 ?_
  refine st_s2 ?_
  refine st_w ?_
  have e1 : ∀ i, k0_pay1 (F := F) (I.s1 c i) (I.s2 c i) = sc I c := fun i => by rw [one_idx i]; rfl
  have e2 := all_w (I.w c)
  refine st_mmA 0 0 (taken_0_lo c) rfl (a := 0) rfl rfl (by
    intro i
    rw [fill_0_0 I c i]
    show _ = k0_pay4 (k0_pay1 _ _) (k0_pay2 _) _ i
    rw [e2, e1]
    rfl) ?_
  refine ret_of c ?_
  iintro H
  isplitr
  · ipureintro
    exact ⟨rfl, rfl, e1 _, congrArg k0_pay2 e2, rfl, rfl⟩
  iexact H

theorem part3 : Hold I K N c (q3 ++ t) ⊢ wpc c (at_ (k0_part3 (F := F)) c (w2 c) (w15 c) (w27 c) (sc I c) (wt I c) (Scalar.cmpi .eq (w15 c) 1#32) 1#1)
    (fun r => iprop(⌜r.2.1 = Scalar.cmpi .eq (w27 c) 1#32 ∧ r.2.2 = Scalar.extui (Scalar.cmpi .eq (w27 c) 1#32)⌝ ∗ Hold I K N c t)) := by
  simp only [at_, k0_part3_eq_skeleton]
  unfold k0_part3_skel
  simp only [q3, List.cons_append, List.nil_append, Prog.lift, Prog.bind_op, Prog.bind_ret, Prog.pure_eq_ret]
  refine st_mmB 0 0 (taken_0_hi c) rfl (a := 704) rfl rfl (by exact fill_0_1 I c) ?_
  refine st_take 0 0 ?_
  refine st_snd I K N c 0 0 0 (by decide) rfl (dev_4 c) (isRows_slc oM c (sent_0_0_0 c) _ _) (isRows_slc (bM 0) (pt 0 0 c) rfl _ _) rfl rfl rfl ?_
  refine st_snd I K N c 0 0 1 (by decide) rfl (dev_5 c) (isRows_slc oM c (sent_0_0_1 c) _ _) (isRows_slc (bM 0) (pt 0 0 c) rfl _ _) rfl rfl rfl ?_
  refine ret_of c ?_
  iintro H
  isplitr
  · ipureintro; exact ⟨rfl, rfl⟩
  iexact H

theorem part4 : Hold I K N c (q4 ++ t) ⊢ wpc c (at_ (k0_part4 (F := F)) c (w2 c) (w27 c) (sc I c) (wt I c)
    (Scalar.cmpi .eq (w27 c) 1#32) (Scalar.extui (Scalar.cmpi .eq (w27 c) 1#32))) (fun _ => Hold I K N c t) := by
  simp only [at_, k0_part4_eq_skeleton]
  unfold k0_part4_skel
  simp only [q4, List.cons_append, List.nil_append, Prog.lift, Prog.bind_op, Prog.bind_ret, Prog.pure_eq_ret]
  refine st_mmA 1 0 (taken_1_lo c) rfl (a := 1408) rfl rfl (by exact fill_1_0 I c) ?_
  refine st_mmB 1 0 (taken_1_hi c) rfl (a := 2080) rfl rfl (by exact fill_1_1 I c) ?_
  refine st_take 1 0 ?_
  refine st_snd I K N c 1 0 0 (by decide) rfl (dev_6 c) (isRows_slc oM c (sent_1_0_0 c) _ _) (isRows_slc (bM 1) (pt 1 0 c) rfl _ _) rfl rfl rfl ?_
  exact ret_of c .rfl

theorem part5 : Hold I K N c (q5 ++ t) ⊢ wpc c (at_ (k0_part5 (F := F)) c (w2 c) (w40 c) (sc I c) (wt I c)) (fun _ => Hold I K N c t) := by
  simp only [at_, k0_part5_eq_skeleton]
  unfold k0_part5_skel
  simp only [q5, List.cons_append, List.nil_append, Prog.lift, Prog.bind_op, Prog.bind_ret, Prog.pure_eq_ret]
  refine st_snd I K N c 1 0 1 (by decide) rfl (dev_7 c) (isRows_slc oM c (sent_1_0_1 c) _ _) (isRows_slc (bM 1) (pt 1 0 c) rfl _ _) rfl rfl rfl ?_
  refine st_mmA 2 0 (taken_2_lo c) rfl (a := 2752) rfl rfl (by exact fill_2_0 I c) ?_
  refine st_mmB 2 0 (taken_2_hi c) rfl (a := 3424) rfl rfl (by exact fill_2_1 I c) ?_
  refine st_take 2 0 ?_
  refine st_snd I K N c 2 0 0 (by decide) rfl (dev_8 c) (isRows_slc oM c (sent_2_0_0 c) _ _) (isRows_slc (bM 2) (pt 2 0 c) rfl _ _) rfl rfl rfl ?_
  exact ret_of c .rfl

theorem part6 (v64) : Hold I K N c (q6 ++ t) ⊢ wpc c (at_ (k0_part6 (F := F)) c (w15 c) (w27 c) (w40 c) (sc I c) (wt I c) v64) (fun _ => Hold I K N c t) := by
  simp only [at_, k0_part6_eq_skeleton]
  unfold k0_part6_skel
  simp only [q6, List.cons_append, List.nil_append, Prog.lift, Prog.bind_op, Prog.bind_ret, Prog.pure_eq_ret]
  refine st_snd I K N c 2 0 1 (by decide) rfl (dev_9 c) (isRows_slc oM c (sent_2_0_1 c) _ _) (isRows_slc (bM 2) (pt 2 0 c) rfl _ _) rfl rfl rfl ?_
  refine st_mmA 0 1 (kept_0_lo c) rfl (a := 0) rfl rfl (by exact fill_0_0 I c) ?_
  refine st_mmB 0 1 (kept_0_hi c) rfl (a := 704) rfl rfl (by exact fill_0_1 I c) ?_
  refine st_mmA 1 1 (kept_1_lo c) rfl (a := 1408) rfl rfl (by exact fill_1_0 I c) ?_
  refine st_mmB 1 1 (kept_1_hi c) rfl (a := 2080) rfl rfl (by exact fill_1_1 I c) ?_
  refine st_mmA 2 1 (kept_2_lo c) rfl (a := 2752) rfl rfl (by exact fill_2_0 I c) ?_
  refine st_mmB 2 1 (kept_2_hi c) rfl (a := 3424) rfl rfl (by exact fill_2_1 I c) ?_
  refine st_rcv 0 0 0 (by decide) rfl rfl ?_
  exact ret_of c .rfl

end Cert.KernelIdeal.AR

end
-- ==== Proof.KernelIdealPartsB.lean ====
/-
The kernel's windows against the plan: the additions of round 0, the exchange of round 1.
-/
module

public import proofs.«01_k».proof.Proof.KernelIdealParts

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

set_option maxRecDepth 8000

variable (I : In F) (K : Dev nD × Cd → ℕ) (N : Dev nD × Fin 3 → ℕ) (c : Dev nD) {t : List Stp}

theorem part7 (v17 v29 v92 v120 w) : Hold I K N c (q7 ++ t) ⊢ wpc c (at_ (k0_part7 (F := F)) c v17 v29 v92 v120 w) (fun _ => Hold I K N c t) := by
  simp only [at_, k0_part7_eq_skeleton]
  unfold k0_part7_skel
  simp only [q7, List.cons_append, List.nil_append, Prog.lift, Prog.bind_op, Prog.bind_ret, Prog.pure_eq_ret, semSignalWord, semWaitWord]
  refine st_acc 0 0 0 (by decide) rfl (add_0_0_0 c) rfl (by exact pay_add _) ?_
  refine st_rcv 1 0 0 (by decide) rfl rfl ?_
  refine st_acc 1 0 0 (by decide) rfl (add_1_0_0 c) rfl (by exact pay_add _) ?_
  exact ret_of c .rfl

theorem part8 (v17 v42 v64 v92) : Hold I K N c (q8 ++ t) ⊢ wpc c (at_ (k0_part8 (F := F)) c v17 v42 v64 v92) (fun _ => Hold I K N c t) := by
  simp only [at_, k0_part8_eq_skeleton]
  unfold k0_part8_skel
  simp only [q8, List.cons_append, List.nil_append, Prog.lift, Prog.bind_op, Prog.bind_ret, Prog.pure_eq_ret, semSignalWord, semWaitWord]
  refine st_rcv 2 0 0 (by decide) rfl rfl ?_
  refine st_acc 2 0 0 (by decide) rfl (add_2_0_0 c) rfl (by exact pay_add _) ?_
  refine st_rcv 0 0 1 (by decide) rfl rfl ?_
  refine st_acc 0 0 1 (by decide) rfl (add_0_0_1 c) rfl (by exact pay_add _) ?_
  exact ret_of c .rfl

theorem part9 (v29 v42 v120) : Hold I K N c (q9 ++ t) ⊢ wpc c (at_ (k0_part9 (F := F)) c v29 v42 v120) (fun _ => Hold I K N c t) := by
  simp only [at_, k0_part9_eq_skeleton]
  unfold k0_part9_skel
  simp only [q9, List.cons_append, List.nil_append, Prog.lift, Prog.bind_op, Prog.bind_ret, Prog.pure_eq_ret, semSignalWord, semWaitWord]
  refine st_rcv 1 0 1 (by decide) rfl rfl ?_
  refine st_acc 1 0 1 (by decide) rfl (add_1_0_1 c) rfl (by exact pay_add _) ?_
  refine st_rcv 2 0 1 (by decide) rfl rfl ?_
  refine st_acc 2 0 1 (by decide) rfl (add_2_0_1 c) rfl (by exact pay_add _) ?_
  exact ret_of c .rfl

theorem part10 (v2) : Hold I K N c (q10 ++ t) ⊢ wpc c (at_ (k0_part10 (F := F)) c v2) (fun _ => Hold I K N c t) := by
  simp only [at_, k0_part10_eq_skeleton]
  unfold k0_part10_skel
  simp only [q10, List.cons_append, List.nil_append, Prog.lift, Prog.bind_op, Prog.bind_ret, Prog.pure_eq_ret, semSignalWord, semWaitWord]
  refine st_unite 0 0 ?_
  refine st_unite 1 0 ?_
  refine st_unite 2 0 ?_
  refine st_give 0 1 ?_
  refine st_give 1 1 ?_
  refine st_give 2 1 ?_
  refine st_all 2 ?_
  refine st_adv 0 0 ?_
  refine st_adv 1 0 ?_
  refine st_adv 2 0 ?_
  refine st_wsn 0 0 0 (by decide) rfl rfl ?_
  refine st_wsn 0 0 1 (by decide) rfl rfl ?_
  refine st_sgA 0 (dev_10 c) rfl ?_
  refine st_wsn 1 0 0 (by decide) rfl rfl ?_
  exact ret_of c .rfl

theorem part11 (v2) : Hold I K N c (q11 ++ t) ⊢ wpc c (at_ (k0_part11 (F := F)) c v2) (fun _ => Hold I K N c t) := by
  simp only [at_, k0_part11_eq_skeleton]
  unfold k0_part11_skel
  simp only [q11, List.cons_append, List.nil_append, Prog.lift, Prog.bind_op, Prog.bind_ret, Prog.pure_eq_ret, semSignalWord, semWaitWord]
  refine st_wsn 1 0 1 (by decide) rfl rfl ?_
  refine st_sgA 1 (dev_11 c) rfl ?_
  refine st_wsn 2 0 0 (by decide) rfl rfl ?_
  refine st_wsn 2 0 1 (by decide) rfl rfl ?_
  refine st_sgA 2 (dev_12 c) rfl ?_
  exact ret_of c .rfl

theorem part12 (v2 v17 v19) : Hold I K N c (q12 ++ t) ⊢ wpc c (at_ (k0_part12 (F := F)) c v2 v17 v19) (fun _ => Hold I K N c t) := by
  simp only [at_, k0_part12_eq_skeleton]
  unfold k0_part12_skel
  simp only [q12, List.cons_append, List.nil_append, Prog.lift, Prog.bind_op, Prog.bind_ret, Prog.pure_eq_ret, semSignalWord, semWaitWord]
  refine st_wtA 0 rfl (by decide) ?_
  refine st_take 0 1 ?_
  refine st_snd I K N c 0 1 0 (by decide) rfl (dev_13 c) (isRows_slc oM c (sent_0_1_0 c) _ _) (isRows_slc (bM 0) (pt 0 1 c) rfl _ _) rfl rfl rfl ?_
  refine st_snd I K N c 0 1 1 (by decide) rfl (dev_14 c) (isRows_slc oM c (sent_0_1_1 c) _ _) (isRows_slc (bM 0) (pt 0 1 c) rfl _ _) rfl rfl rfl ?_
  refine st_wtA 1 rfl (by decide) ?_
  exact ret_of c .rfl

theorem part13 (v2 v29 v31 v45 w) : Hold I K N c (q13 ++ t) ⊢ wpc c (at_ (k0_part13 (F := F)) c v2 v29 v31 v45 w) (fun _ => Hold I K N c t) := by
  simp only [at_, k0_part13_eq_skeleton]
  unfold k0_part13_skel
  simp only [q13, List.cons_append, List.nil_append, Prog.lift, Prog.bind_op, Prog.bind_ret, Prog.pure_eq_ret, semSignalWord, semWaitWord]
  refine st_take 1 1 ?_
  refine st_snd I K N c 1 1 0 (by decide) rfl (dev_15 c) (isRows_slc oM c (sent_1_1_0 c) _ _) (isRows_slc (bM 1) (pt 1 1 c) rfl _ _) rfl rfl rfl ?_
  refine st_snd I K N c 1 1 1 (by decide) rfl (dev_16 c) (isRows_slc oM c (sent_1_1_1 c) _ _) (isRows_slc (bM 1) (pt 1 1 c) rfl _ _) rfl rfl rfl ?_
  refine st_wtA 2 rfl (by decide) ?_
  exact ret_of c .rfl

theorem part14 (v42 v285 v333 v334) : Hold I K N c (q14 ++ t) ⊢ wpc c (at_ (k0_part14 (F := F)) c v42 v285 v333 v334) (fun _ => Hold I K N c t) := by
  simp only [at_, k0_part14_eq_skeleton]
  unfold k0_part14_skel
  simp only [q14, List.cons_append, List.nil_append, Prog.lift, Prog.bind_op, Prog.bind_ret, Prog.pure_eq_ret, semSignalWord, semWaitWord]
  refine st_take 2 1 ?_
  refine st_snd I K N c 2 1 0 (by decide) rfl (dev_17 c) (isRows_slc oM c (sent_2_1_0 c) _ _) (isRows_slc (bM 2) (pt 2 1 c) rfl _ _) rfl rfl rfl ?_
  refine st_snd I K N c 2 1 1 (by decide) rfl (dev_18 c) (isRows_slc oM c (sent_2_1_1 c) _ _) (isRows_slc (bM 2) (pt 2 1 c) rfl _ _) rfl rfl rfl ?_
  exact ret_of c .rfl

theorem part15 (v21 v33 v309 v333) : Hold I K N c (q15 ++ t) ⊢ wpc c (at_ (k0_part15 (F := F)) c v21 v33 v309 v333) (fun _ => Hold I K N c t) := by
  simp only [at_, k0_part15_eq_skeleton]
  unfold k0_part15_skel
  simp only [q15, List.cons_append, List.nil_append, Prog.lift, Prog.bind_op, Prog.bind_ret, Prog.pure_eq_ret, semSignalWord, semWaitWord]
  refine st_rcv 0 1 0 (by decide) rfl rfl ?_
  refine st_acc 0 1 0 (by decide) rfl (add_0_1_0 c) rfl (by exact pay_add _) ?_
  refine st_rcv 1 1 0 (by decide) rfl rfl ?_
  refine st_acc 1 1 0 (by decide) rfl (add_1_1_0 c) rfl (by exact pay_add _) ?_
  exact ret_of c .rfl

theorem part16 (v21 v47 v285 v383 w) : Hold I K N c (q16 ++ t) ⊢ wpc c (at_ (k0_part16 (F := F)) c v21 v47 v285 v383 w) (fun _ => Hold I K N c t) := by
  simp only [at_, k0_part16_eq_skeleton]
  unfold k0_part16_skel
  simp only [q16, List.cons_append, List.nil_append, Prog.lift, Prog.bind_op, Prog.bind_ret, Prog.pure_eq_ret, semSignalWord, semWaitWord]
  refine st_rcv 2 1 0 (by decide) rfl rfl ?_
  refine st_acc 2 1 0 (by decide) rfl (add_2_1_0 c) rfl (by exact pay_add _) ?_
  refine st_rcv 0 1 1 (by decide) rfl rfl ?_
  refine st_acc 0 1 1 (by decide) rfl (add_0_1_1 c) rfl (by exact pay_add _) ?_
  exact ret_of c .rfl

theorem part17 (v33 v47 v309 v333) : Hold I K N c (q17 ++ t) ⊢ wpc c (at_ (k0_part17 (F := F)) c v33 v47 v309 v333) (fun _ => Hold I K N c t) := by
  simp only [at_, k0_part17_eq_skeleton]
  unfold k0_part17_skel
  simp only [q17, List.cons_append, List.nil_append, Prog.lift, Prog.bind_op, Prog.bind_ret, Prog.pure_eq_ret, semSignalWord, semWaitWord]
  refine st_rcv 1 1 1 (by decide) rfl rfl ?_
  refine st_acc 1 1 1 (by decide) rfl (add_1_1_1 c) rfl (by exact pay_add _) ?_
  refine st_rcv 2 1 1 (by decide) rfl rfl ?_
  refine st_acc 2 1 1 (by decide) rfl (add_2_1_1 c) rfl (by exact pay_add _) ?_
  exact ret_of c .rfl

end Cert.KernelIdeal.AR

end
-- ==== Proof.KernelIdealPartsC.lean ====
/-
The kernel's windows against the plan: the exchange of round 2 and the all-gather.
-/
module

public import proofs.«01_k».proof.Proof.KernelIdealParts

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

set_option maxRecDepth 8000

variable (I : In F) (K : Dev nD × Cd → ℕ) (N : Dev nD × Fin 3 → ℕ) (c : Dev nD) {t : List Stp}

theorem part18 (v2) : Hold I K N c (q18 ++ t) ⊢ wpc c (at_ (k0_part18 (F := F)) c v2) (fun _ => Hold I K N c t) := by
  simp only [at_, k0_part18_eq_skeleton]
  unfold k0_part18_skel
  simp only [q18, List.cons_append, List.nil_append, Prog.lift, Prog.bind_op, Prog.bind_ret, Prog.pure_eq_ret, semSignalWord, semWaitWord]
  refine st_unite 0 1 ?_
  refine st_unite 1 1 ?_
  refine st_unite 2 1 ?_
  refine st_give 0 2 ?_
  refine st_give 1 2 ?_
  refine st_give 2 2 ?_
  refine st_adv 0 1 ?_
  refine st_adv 1 1 ?_
  refine st_adv 2 1 ?_
  refine st_wsn 0 1 0 (by decide) rfl rfl ?_
  refine st_wsn 0 1 1 (by decide) rfl rfl ?_
  refine st_sgB 0 (dev_19 c) rfl ?_
  refine st_wsn 1 1 0 (by decide) rfl rfl ?_
  exact ret_of c .rfl

theorem part19 (v2) : Hold I K N c (q19 ++ t) ⊢ wpc c (at_ (k0_part19 (F := F)) c v2) (fun _ => Hold I K N c t) := by
  simp only [at_, k0_part19_eq_skeleton]
  unfold k0_part19_skel
  simp only [q19, List.cons_append, List.nil_append, Prog.lift, Prog.bind_op, Prog.bind_ret, Prog.pure_eq_ret, semSignalWord, semWaitWord]
  refine st_wsn 1 1 1 (by decide) rfl rfl ?_
  refine st_sgB 1 (dev_20 c) rfl ?_
  refine st_wsn 2 1 0 (by decide) rfl rfl ?_
  refine st_wsn 2 1 1 (by decide) rfl rfl ?_
  exact ret_of c .rfl

theorem part20 (v2 v21 v23 v33 v36 v476 w) : Hold I K N c (q20 ++ t) ⊢ wpc c (at_ (k0_part20 (F := F)) c v2 v21 v23 v33 v36 v476 w) (fun _ => Hold I K N c t) := by
  simp only [at_, k0_part20_eq_skeleton]
  unfold k0_part20_skel
  simp only [q20, List.cons_append, List.nil_append, Prog.lift, Prog.bind_op, Prog.bind_ret, Prog.pure_eq_ret, semSignalWord, semWaitWord]
  refine st_sgB 2 (dev_21 c) rfl ?_
  refine st_wtB 0 rfl (by decide) ?_
  refine st_take 0 2 ?_
  refine st_snd I K N c 0 2 0 (by decide) rfl (dev_22 c) (isRows_slc oM c (sent_0_2_0 c) _ _) (isRows_slc (bM 0) (pt 0 2 c) rfl _ _) rfl rfl rfl ?_
  refine st_wtB 1 rfl (by decide) ?_
  exact ret_of c .rfl

theorem part21 (v2 v47 v49 v480 v500) : Hold I K N c (q21 ++ t) ⊢ wpc c (at_ (k0_part21 (F := F)) c v2 v47 v49 v480 v500) (fun _ => Hold I K N c t) := by
  simp only [at_, k0_part21_eq_skeleton]
  unfold k0_part21_skel
  simp only [q21, List.cons_append, List.nil_append, Prog.lift, Prog.bind_op, Prog.bind_ret, Prog.pure_eq_ret, semSignalWord, semWaitWord]
  refine st_take 1 2 ?_
  refine st_snd I K N c 1 2 0 (by decide) rfl (dev_23 c) (isRows_slc oM c (sent_1_2_0 c) _ _) (isRows_slc (bM 1) (pt 1 2 c) rfl _ _) rfl rfl rfl ?_
  refine st_wtB 2 rfl (by decide) ?_
  refine st_take 2 2 ?_
  refine st_snd I K N c 2 2 0 (by decide) rfl (dev_24 c) (isRows_slc oM c (sent_2_2_0 c) _ _) (isRows_slc (bM 2) (pt 2 2 c) rfl _ _) rfl rfl rfl ?_
  exact ret_of c .rfl

theorem part22 (v25 v38 v495 v510) : Hold I K N c (q22 ++ t) ⊢ wpc c (at_ (k0_part22 (F := F)) c v25 v38 v495 v510) (fun _ => Hold I K N c t) := by
  simp only [at_, k0_part22_eq_skeleton]
  unfold k0_part22_skel
  simp only [q22, List.cons_append, List.nil_append, Prog.lift, Prog.bind_op, Prog.bind_ret, Prog.pure_eq_ret, semSignalWord, semWaitWord]
  refine st_rcv 0 2 0 (by decide) rfl rfl ?_
  refine st_acc 0 2 0 (by decide) rfl (add_0_2_0 c) rfl (by exact pay_add _) ?_
  refine st_rcv 1 2 0 (by decide) rfl rfl ?_
  refine st_acc 1 2 0 (by decide) rfl (add_1_2_0 c) rfl (by exact pay_add _) ?_
  exact ret_of c .rfl

theorem part23 (v51 v551 w) : Hold I K N c (q23 ++ t) ⊢ wpc c (at_ (k0_part23 (F := F)) c v51 v551 w) (fun _ => Hold I K N c t) := by
  simp only [at_, k0_part23_eq_skeleton]
  unfold k0_part23_skel
  simp only [q23, List.cons_append, List.nil_append, Prog.lift, Prog.bind_op, Prog.bind_ret, Prog.pure_eq_ret, semSignalWord, semWaitWord]
  refine st_rcv 2 2 0 (by decide) rfl rfl ?_
  refine st_acc 2 2 0 (by decide) rfl (add_2_2_0 c) rfl (by exact pay_add _) ?_
  refine st_wsn 0 2 0 (by decide) rfl rfl ?_
  refine st_wsn 1 2 0 (by decide) rfl rfl ?_
  exact ret_of c .rfl

theorem part24 (v2) : Hold I K N c (q24 ++ t) ⊢ wpc c (at_ (k0_part24 (F := F)) c v2) (fun _ => Hold I K N c t) := by
  simp only [at_, k0_part24_eq_skeleton]
  unfold k0_part24_skel
  simp only [q24, List.cons_append, List.nil_append, Prog.lift, Prog.bind_op, Prog.bind_ret, Prog.pure_eq_ret, semSignalWord, semWaitWord]
  refine st_wsn 2 2 0 (by decide) rfl rfl ?_
  refine st_unite 0 2 ?_
  refine st_unite 1 2 ?_
  refine st_unite 2 2 ?_
  refine st_adv 0 2 ?_
  refine st_adv 1 2 ?_
  refine st_adv 2 2 ?_
  refine st_gsn I K N c 0 2 rfl (dev_25 c) (isRows_slc oM c (part_0_2 c) _ _) (isRows_slc oM (pt 0 2 c) (part_0_2 c) _ _) rfl rfl rfl ?_
  refine st_gsn I K N c 1 2 rfl (dev_26 c) (isRows_slc oM c (part_1_2 c) _ _) (isRows_slc oM (pt 1 2 c) (part_1_2 c) _ _) rfl rfl rfl ?_
  exact ret_of c .rfl

theorem part25 (v577 v586) : Hold I K N c (q25 ++ t) ⊢ wpc c (at_ (k0_part25 (F := F)) c v577 v586) (fun _ => Hold I K N c t) := by
  simp only [at_, k0_part25_eq_skeleton]
  unfold k0_part25_skel
  simp only [q25, List.cons_append, List.nil_append, Prog.lift, Prog.bind_op, Prog.bind_ret, Prog.pure_eq_ret, semSignalWord, semWaitWord]
  refine st_gsn I K N c 2 2 rfl (dev_27 c) (isRows_slc oM c (part_2_2 c) _ _) (isRows_slc oM (pt 2 2 c) (part_2_2 c) _ _) rfl rfl rfl ?_
  refine st_gwS 0 2 rfl rfl ?_
  refine st_gwR 0 2 rfl rfl ?_
  refine st_gwS 1 2 rfl rfl ?_
  refine st_gwR 1 2 rfl rfl ?_
  exact ret_of c .rfl

theorem part26 (v2 v595) : Hold I K N c (q26 ++ t) ⊢ wpc c (at_ (k0_part26 (F := F)) c v2 v595) (fun _ => Hold I K N c t) := by
  simp only [at_, k0_part26_eq_skeleton]
  unfold k0_part26_skel
  simp only [q26, List.cons_append, List.nil_append, Prog.lift, Prog.bind_op, Prog.bind_ret, Prog.pure_eq_ret, semSignalWord, semWaitWord]
  refine st_gwS 2 2 rfl rfl ?_
  refine st_gwR 2 2 rfl rfl ?_
  refine st_gj 0 2 ?_
  refine st_gj 1 2 ?_
  refine st_gj 2 2 ?_
  refine st_gsn I K N c 0 1 rfl (dev_28 c) (isRows_slc oM c (part_0_1 c) _ _) (isRows_slc oM (pt 0 1 c) (part_0_1 c) _ _) rfl rfl rfl ?_
  exact ret_of c .rfl

theorem part27 (v2 v634) : Hold I K N c (q27 ++ t) ⊢ wpc c (at_ (k0_part27 (F := F)) c v2 v634) (fun _ => Hold I K N c t) := by
  simp only [at_, k0_part27_eq_skeleton]
  unfold k0_part27_skel
  simp only [q27, List.cons_append, List.nil_append, Prog.lift, Prog.bind_op, Prog.bind_ret, Prog.pure_eq_ret, semSignalWord, semWaitWord]
  refine st_gsn I K N c 1 1 rfl (dev_29 c) (isRows_slc oM c (part_1_1 c) _ _) (isRows_slc oM (pt 1 1 c) (part_1_1 c) _ _) rfl rfl rfl ?_
  refine st_gsn I K N c 2 1 rfl (dev_30 c) (isRows_slc oM c (part_2_1 c) _ _) (isRows_slc oM (pt 2 1 c) (part_2_1 c) _ _) rfl rfl rfl ?_
  refine st_gwS 0 1 rfl rfl ?_
  refine st_gwR 0 1 rfl rfl ?_
  exact ret_of c .rfl

theorem part28 (v2 v643 v652) : Hold I K N c (q28 ++ t) ⊢ wpc c (at_ (k0_part28 (F := F)) c v2 v643 v652) (fun _ => Hold I K N c t) := by
  simp only [at_, k0_part28_eq_skeleton]
  unfold k0_part28_skel
  simp only [q28, List.cons_append, List.nil_append, Prog.lift, Prog.bind_op, Prog.bind_ret, Prog.pure_eq_ret, semSignalWord, semWaitWord]
  refine st_gwS 1 1 rfl rfl ?_
  refine st_gwR 1 1 rfl rfl ?_
  refine st_gwS 2 1 rfl rfl ?_
  refine st_gwR 2 1 rfl rfl ?_
  exact ret_of c .rfl

theorem part29 (v2 v691) : Hold I K N c (q29 ++ t) ⊢ wpc c (at_ (k0_part29 (F := F)) c v2 v691) (fun _ => Hold I K N c t) := by
  simp only [at_, k0_part29_eq_skeleton]
  unfold k0_part29_skel
  simp only [q29, List.cons_append, List.nil_append, Prog.lift, Prog.bind_op, Prog.bind_ret, Prog.pure_eq_ret, semSignalWord, semWaitWord]
  refine st_gj 0 1 ?_
  refine st_gj 1 1 ?_
  refine st_gj 2 1 ?_
  refine st_gsn I K N c 0 0 rfl (dev_31 c) (isRows_slc oM c (part_0_0 c) _ _) (isRows_slc oM (pt 0 0 c) (part_0_0 c) _ _) rfl rfl rfl ?_
  refine st_gsn I K N c 1 0 rfl (dev_32 c) (isRows_slc oM c (part_1_0 c) _ _) (isRows_slc oM (pt 1 0 c) (part_1_0 c) _ _) rfl rfl rfl ?_
  refine st_gsn I K N c 2 0 rfl (dev_33 c) (isRows_slc oM c (part_2_0 c) _ _) (isRows_slc oM (pt 2 0 c) (part_2_0 c) _ _) rfl rfl rfl ?_
  refine st_gwS 0 0 rfl rfl ?_
  exact ret_of c .rfl

theorem part30 (v700 v709 v722 w) : Hold I K N c (q30 ++ t) ⊢ wpc c (at_ (k0_part30 (F := F)) c v700 v709 v722 w) (fun _ => Hold I K N c t) := by
  simp only [at_, k0_part30_eq_skeleton]
  unfold k0_part30_skel
  simp only [q30, List.cons_append, List.nil_append, Prog.lift, Prog.bind_op, Prog.bind_ret, Prog.pure_eq_ret, semSignalWord, semWaitWord]
  refine st_gwR 0 0 rfl rfl ?_
  refine st_gwS 1 0 rfl rfl ?_
  refine st_gwR 1 0 rfl rfl ?_
  refine st_gwS 2 0 rfl rfl ?_
  exact ret_of c .rfl

end Cert.KernelIdeal.AR

end
-- ==== Proof.KernelIdealBody.lean ====
/-
The whole kernel body on one device follows the plan from its first step to its last.
-/
module

public import proofs.«01_k».proof.Proof.KernelIdealPartsB
public import proofs.«01_k».proof.Proof.KernelIdealPartsC

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

set_option maxRecDepth 8000

variable (I : In F) (K : Dev nD × Cd → ℕ) (N : Dev nD × Fin 3 → ℕ) (c : Dev nD)

/-- One window, then the rest. -/
theorem seq {α β : Type} {P : sProp 𝕄} {p : Pg F α} {k : α → Pg F β} {R : α → sProp 𝕄} {Q : β → sProp 𝕄}
    (h1 : P ⊢ wpc c p R) (h2 : ∀ a, R a ⊢ wpc c (k a) Q) : P ⊢ wpc c (p >>= k) Q := by
  unfold wpc at h1 h2 ⊢
  rw [wp_bind]
  exact h1.trans (wp_mono _ _ _ h2)

/-- What a window says of its answer is kept by name. -/
theorem seq_fact {α β : Type} {P : sProp 𝕄} {p : Pg F α} {k : α → Pg F β} {φ : α → Prop} {R : sProp 𝕄} {Q : β → sProp 𝕄}
    (h1 : P ⊢ wpc c p fun a => iprop(⌜φ a⌝ ∗ R)) (h2 : ∀ a, φ a → R ⊢ wpc c (k a) Q) : P ⊢ wpc c (p >>= k) Q :=
  seq c h1 fun a => by
    iintro ⟨%ha, H⟩
    iapply (h2 a ha) $$ H

theorem body : Hold I K N c prog ⊢ wpc c (at_ (cc0__ar_body (F := F))) (fun _ => Hold I K N c []) := by
  simp only [at_, cc0__ar_body_eq_skeleton]
  unfold cc0__ar_body_skel
  unfold prog
  simp only [q0, List.cons_append, List.nil_append]
  refine st_start ?_
  refine st_give 0 0 ?_
  refine st_give 1 0 ?_
  refine st_give 2 0 ?_
  refine st_all 1 ?_
  refine st_close 0 ?_
  refine st_close 1 ?_
  refine st_close 2 ?_
  refine seq_fact c (part1 I K N c) fun r hr => ?_
  obtain ⟨d, v2, v15, v17, v19, v21, v23, v25, v26, w⟩ := r
  dsimp only at hr ⊢
  obtain ⟨rfl, rfl, rfl, rfl, rfl⟩ := hr
  refine seq_fact _ (part2 I K N _) fun r hr => ?_
  obtain ⟨v27, v29, v31, v33, v36, v38, v40, v42, v45, v47, v49, v51, v54, v57, v58, w⟩ := r
  dsimp only at hr ⊢
  obtain ⟨rfl, rfl, rfl, rfl, rfl, rfl⟩ := hr
  refine seq_fact _ (part3 I K N _) fun r hr => ?_
  obtain ⟨v64, v86, v87⟩ := r
  dsimp only at hr ⊢
  obtain ⟨rfl, rfl⟩ := hr
  refine seq _ (part4 I K N _) fun _ => ?_
  refine seq _ (part5 I K N _) fun _ => ?_
  refine seq _ (part6 I K N _ _) fun _ => ?_
  refine seq _ (part7 I K N _ _ _ _ _ _) fun _ => ?_
  refine seq _ (part8 I K N _ _ _ _ _) fun _ => ?_
  refine seq _ (part9 I K N _ _ _ _) fun _ => ?_
  refine seq _ (part10 I K N _ _) fun _ => ?_
  refine seq _ (part11 I K N _ _) fun _ => ?_
  refine seq _ (part12 I K N _ _ _ _) fun _ => ?_
  refine seq _ (part13 I K N _ _ _ _ _ _) fun _ => ?_
  refine seq _ (part14 I K N _ _ _ _ _) fun _ => ?_
  refine seq _ (part15 I K N _ _ _ _ _) fun _ => ?_
  refine seq _ (part16 I K N _ _ _ _ _ _) fun _ => ?_
  refine seq _ (part17 I K N _ _ _ _ _) fun _ => ?_
  refine seq _ (part18 I K N _ _) fun _ => ?_
  refine seq _ (part19 I K N _ _) fun _ => ?_
  refine seq _ (part20 I K N _ _ _ _ _ _ _ _) fun _ => ?_
  refine seq _ (part21 I K N _ _ _ _ _ _) fun _ => ?_
  refine seq _ (part22 I K N _ _ _ _ _) fun _ => ?_
  refine seq _ (part23 I K N _ _ _ _) fun _ => ?_
  refine seq _ (part24 I K N _ _) fun _ => ?_
  refine seq _ (part25 I K N _ _ _) fun _ => ?_
  refine seq _ (part26 I K N _ _ _) fun _ => ?_
  refine seq _ (part27 I K N _ _ _) fun _ => ?_
  refine seq _ (part28 I K N _ _ _ _) fun _ => ?_
  refine seq _ (part29 I K N _ _ _) fun _ => ?_
  refine seq _ (part30 I K N _ _ _ _ _) fun _ => ?_
  simp only [q31, Prog.lift, Prog.bind_op, Prog.bind_ret, Prog.pure_eq_ret]
  refine st_gwR 2 0 rfl rfl ?_
  refine st_gj 0 0 ?_
  refine st_gj 1 0 ?_
  refine st_gj 2 0 ?_
  refine st_done ?_
  exact ret_of _ .rfl

end Cert.KernelIdeal.AR

end
-- ==== Proof.KernelIdealDeal.lean ====
/- What each device is dealt at launch: its semaphores, its tokens, the records of the landing buffers and the credits for
   what the others owe it; and the data of the region the kernel runs in. -/
module

public import proofs.«01_k».proof.Proof.KernelIdealBody
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

/-! ## The arguments and the result -/

/-- The blocks of the arguments on every device, as the memory at launch holds them. -/
def inp : In F where
  x d := (win0_0.blk (0 : Fin 1)).view.read (Elt F) (m ((d : Thread nD τ).loc main_arg0))
  w d := (win0_1.blk (0 : Fin 1)).view.read (Elt F) (m ((d : Thread nD τ).loc main_arg1))
  s1 d := (win0_2.blk (0 : Fin 1)).view.read (Elt F) (m ((d : Thread nD τ).loc main_arg2))
  s2 d := (win0_3.blk (0 : Fin 1)).view.read (Elt F) (m ((d : Thread nD τ).loc main_arg3))

/-- The result block: the same on every device. -/
def outB : S4096x2048.Idx → Elt F .f32 := fun i => Fn (inp m) (i 0).val (i 1).val

/-! ## Pieces out of a list, and back -/

theorem holds_map {α : Type} (I : In F) (c : Dev nD) (f : α → Atom) (l : List α) :
    (holds I c (l.map f) : sProp 𝕄) = bigSepL l fun x => at' I c (f x) := by
  induction l with
  | nil => rfl
  | cons a l ih => rw [List.map_cons, bigSepL_cons, ← ih]; rfl

theorem holds_of_set {α : Type} [DecidableEq α] (I : In F) (c : Dev nD) (f : α → Atom) (l : List α) (hl : l.Nodup) :
    (holds I c (l.map f) : sProp 𝕄) = bigSep l.toFinset fun x => at' I c (f x) := by
  rw [holds_map, bigSep_eq_bigSepL l hl]

theorem univ_Cd : (Finset.univ : Finset Cd) = allCd.toFinset := by
  ext k; simp [mem_allCd]

theorem holds_allCd (I : In F) (c : Dev nD) (f : Cd → Atom) :
    (holds I c (allCd.map f) : sProp 𝕄) = bigSep Finset.univ fun k => at' I c (f k) := by
  rw [univ_Cd, holds_of_set I c f _ allCd_nodup]

theorem holds_finRange (I : In F) (c : Dev nD) (n : ℕ) (f : Fin n → Atom) :
    (holds I c ((List.finRange n).map f) : sProp 𝕄) = bigSep Finset.univ fun k => at' I c (f k) := by
  rw [holds_of_set I c f _ (List.nodup_finRange n), List.toFinset_finRange]

def bufs : List Atom := [.buf 0, .buf 1, .buf 2]
def poss : List Atom := allCd.map .pos
def toks : List Atom := tokens.map fun x => .tok x.1 x.2.1 x.2.2
def crds : List Atom := promised.map fun x => .crd x.1 x.2
def rdrs : List Atom := (List.finRange 3).map fun e => .rdr e 0
def prs : List (Fin 3 × Fin 3) := (List.finRange 3).flatMap fun e => (List.finRange 3).map fun r => (e, r)
def wtoks : List Atom := prs.map fun x => .wtok x.1 x.2
def zeros : List Atom := allCd.map .zero
/-- What a device starts with, in the order it comes in. -/
def begins : List Atom := [.outAny, .ins] ++ (bufs ++ (crds ++ (poss ++ (toks ++ (rdrs ++ wtoks)))))

theorem begins_enough : sub initial begins = true := by decide +kernel

theorem univ_prs : (Finset.univ : Finset (Fin 3 × Fin 3)) = prs.toFinset := by decide +kernel
theorem prs_nodup : prs.Nodup := by decide +kernel

/-! ## The semaphores -/

/-- The semaphores the kernel allocates: all but the entry barrier's. -/
abbrev Own : Type := { k : Cd // k ≠ .bar }
abbrev osem : Own → SemLoc sig := fun k => loc k.val

theorem ownSemFacts : Pipeline.OwnSemFacts cfg0.spec osem := by decide +kernel

theorem own_map : (Finset.univ : Finset Own).map ⟨Subtype.val, Subtype.val_injective⟩ = Finset.univ.erase Cd.bar := by
  ext k; simp

theorem unscopedSems0_eq (c : Dev nD) : (unscopedSems0 c : sProp 𝕄) = semVal (cell c .bar) 0 := by
  unfold unscopedSems0; rw [bigSep_eq_bigSepL_of_eq [SemLoc.reg sbar] (by decide +kernel) (by decide)]; rfl

theorem sems_eq (c : Dev nD) :
    (bigSep Finset.univ fun k : Cd => semVal (cell c k) 0 : sProp 𝕄)
      = iprop(unscopedSems0 c ∗ Pipeline.ownSems0 (Ix := ℕ) (Name := ℕ) (U := UU) (Lvl := ℕ) (Val := Elt F) (τ := τ) osem c) := by
  rw [unscopedSems0_eq, bigSep_univ_at _ Cd.bar, ← own_map, bigSep_map]
  rfl

/-! ## The launch's ghost state -/

theorem kcell_injective : Function.Injective (fun x : Dev nD × Cd => cell x.1 x.2) := by
  rintro ⟨c, k⟩ ⟨c', k'⟩ h
  obtain ⟨rfl, rfl⟩ := cell_inj h
  rfl
def ringCells : Finset (GSem nD τ sig) := Finset.univ.map ⟨fun x : Dev nD × Cd => cell x.1 x.2, kcell_injective⟩

/-- A payment's token by who pays it and which of the payments it is. -/
def tokOf (x : Dev nD × Fin tokens.length) : GSem nD τ sig × ℕ × Fin 3 :=
  (cell (xr (tokens.get x.2).1 x.1) (tokens.get x.2).2.1, 0, (tokens.get x.2).2.2)

theorem tokens_nodup : (tokens.map Prod.snd).Nodup := by decide +kernel

theorem tokOf_injective : Function.Injective tokOf := by
  rintro ⟨c, i⟩ ⟨c', j⟩ h
  unfold tokOf at h
  obtain ⟨h1, h2⟩ := cell_inj (congrArg Prod.fst h)
  have h3 : (tokens.get i).2.2 = (tokens.get j).2.2 := congrArg (fun x => x.2.2) h
  dsimp only at h1 h2
  have hij : i = j := by
    have h4 : (tokens.get i).2 = (tokens.get j).2 := Prod.ext h2 h3
    have h5 := List.inj_on_of_nodup_map tokens_nodup (List.get_mem tokens i) (List.get_mem tokens j) h4
    exact (List.nodup_iff_injective_get.mp (List.Nodup.of_map _ tokens_nodup)) h5
  subst hij
  have hc : c = c' := by rw [← xr_xr (tokens.get i).1 c, h1, xr_xr]
  rw [hc]

def ringToks : Finset (GSem nD τ sig × ℕ × Fin 3) := Finset.univ.map ⟨tokOf, tokOf_injective⟩

abbrev slots : Finset (Dev nD × Fin 3) := Finset.univ

def u₀ : UU :=
  (initOf (Pipeline.cells cfgs cellOf_inj) (Pipeline.launchToks cfgs cellOf_inj), (initOf ringCells ringToks, Release.initSlots slots 3))

/-- The landing buffers' records, dealt whole to the first device. -/
def recs (c : Dev nD) : sProp 𝕄 := if c = 0 then BI.own (EL (Release.initSlots slots 3)) else iprop(emp)

/-- What device `c` is dealt at launch. -/
def G (c : Dev nD) : sProp 𝕄 :=
  iprop((bigSep Finset.univ fun k : Cd => roundState ER (Rd (inp m)) (cell c k) 0)
    ∗ (bigSep Finset.univ fun k : Cd => reached ER (cell c k) 0) ∗ holds (inp m) c poss ∗ holds (inp m) c toks ∗ recs c)

theorem toks_dealt (c : Dev nD) : (bigSep Finset.univ fun i : Fin tokens.length => (dutyTok ER (tokOf (c, i)).1 (tokOf (c, i)).2.1 (tokOf (c, i)).2.2 : sProp 𝕄))
    = holds (inp m) c toks := by
  have h : toks = (List.finRange tokens.length).map fun i => Atom.tok (tokens.get i).1 (tokens.get i).2.1 (tokens.get i).2.2 := by decide +kernel
  rw [h, holds_finRange]
  rfl

theorem recs_all : (bigSep Finset.univ fun c : Dev nD => (recs c : sProp 𝕄)) = BI.own (EL (Release.initSlots slots 3)) := by
  rw [bigSep_univ_at _ (0 : Dev nD)]
  have h : (bigSep (Finset.univ.erase (0 : Dev nD)) fun c : Dev nD => (recs c : sProp 𝕄)) = iprop(emp) := by
    rw [bigSep_congr (Ψ := fun _ => iprop(emp)) fun c hc => by unfold recs; rw [if_neg (Finset.ne_of_mem_erase hc)]]
    exact BI.bigSep_emp_const _
  rw [h]
  unfold recs
  rw [if_pos rfl]
  have h1 : iprop(BI.own (EL (Release.initSlots slots 3)) ∗ emp) ⊢ (BI.own (EL (Release.initSlots slots 3)) : sProp 𝕄) := by
    iintro ⟨H, -⟩; iexact H
  have h2 : BI.own (EL (Release.initSlots slots 3)) ⊢ (iprop(BI.own (EL (Release.initSlots slots 3)) ∗ emp) : sProp 𝕄) := by
    iintro H
    isplitl
    · iexact H
    · iempintro
  exact Entails.antisymm h1 h2

theorem fund_ring : iprop(BI.own (ER (initOf ringCells ringToks)) ∗ BI.own (EL (Release.initSlots slots 3))) ⊢ (|==> bigSep Finset.univ (G m) : sProp 𝕄) := by
  have hX (Φ : GSem nD τ sig → sProp 𝕄) : bigSep ringCells Φ = bigSep Finset.univ fun c : Dev nD => bigSep Finset.univ fun k : Cd => Φ (cell c k) := by
    unfold ringCells; rw [bigSep_map, bigSep_univ_prod]; rfl
  have hT : bigSep ringToks (fun x => (dutyTok ER x.1 x.2.1 x.2.2 : sProp 𝕄)) = bigSep Finset.univ fun c : Dev nD => holds (inp m) c toks := by
    unfold ringToks; rw [bigSep_map, bigSep_univ_prod]
    exact bigSep_congr fun c _ => toks_dealt m c
  iintro ⟨HX, HL⟩
  imod (Rounds.fund ER (Rd (inp m)) ringCells ringToks) $$ HX with ⟨Hst, Hr, Hat, Htok⟩
  imodintro
  ihave Hst' := (Entails.of_eq (hX fun g => roundState ER (Rd (inp m)) g 0)) $$ Hst
  ihave Hat' := (Entails.of_eq ((hX fun g => atPos ER g 0 ∅ 0).trans (bigSep_congr fun c _ => (holds_allCd (inp m) c .pos).symm))) $$ Hat
  ihave Hr' := (Entails.of_eq (hX fun g => reached ER g 0)) $$ Hr
  ihave Htok' := (Entails.of_eq hT) $$ Htok
  ihave HL' := (Entails.of_eq (recs_all (F := F)).symm) $$ HL
  unfold G; simp only [bigSep_sep']
  isplitl [Hst']; · iexact Hst'
  isplitl [Hr']; · iexact Hr'
  isplitl [Hat']; · iexact Hat'
  isplitl [Htok'] <;> iassumption

/-! ## The global step -/

/-- The lasting record but for the levels. -/
def Env₀ (I : In F) (K : Dev nD × Cd → ℕ) (N : Dev nD × Fin 3 → ℕ) : sProp 𝕄 :=
  iprop(bigSep Finset.univ (fun x : Dev nD × Cd => iprop(cellInv ER (Rd I) (K x) (cell x.1 x.2) ∗ reached ER (cell x.1 x.2) 0))
    ∗ bigSep Finset.univ (fun x : Dev nD × Fin 3 => Release.slotInv EL (N x) x (rowsAny (F := F) (bM x.2) x.1 0 (Hn x.2 0))))

instance Env₀_pers (I : In F) (K : Dev nD × Cd → ℕ) (N : Dev nD × Fin 3 → ℕ) : BI.Persistent (Env₀ I K N) := by unfold Env₀; infer_instance

/-- What each device's own pieces come to once the records are shared. -/
def G' (c : Dev nD) : sProp 𝕄 := iprop(∃ K N, Env₀ (inp m) K N ∗ holds (inp m) c poss ∗ holds (inp m) c toks ∗ holds (inp m) c rdrs ∗ holds (inp m) c wtoks)

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Cd => iprop(∃ κ : ℕ, cellInv ER (Rd (inp m)) κ (cell c k)))
          ∗ (bigSep Finset.univ fun k : Cd => reached ER (cell c k) 0) ∗ holds (inp m) c poss ∗ holds (inp m) c toks ∗ recs c) := by
  unfold G
  iintro ⟨Hos, Hus, Hst, Hr, Hat, Htok, HL⟩
  ihave Hv := (Entails.of_eq (sems_eq (F := F) c).symm) $$ [Hos Hus]
  · isplitl [Hus] <;> iassumption
  imod (show iprop((bigSep Finset.univ fun k : Cd => semVal (cell c k) 0) ∗ bigSep Finset.univ fun k : Cd => roundState ER (Rd (inp m)) (cell c k) 0)
      ⊢ (|={Set.univ}=> bigSep Finset.univ fun k => iprop(∃ κ : ℕ, cellInv ER (Rd (inp m)) κ (cell c k)) : sProp 𝕄) from by
        rw [← bigSep_sep']
        exact (bigSep_mono fun k _ => (Rounds.body_intro ER (Rd (inp m)) (cell c k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok] <;> iassumption

/-- The write token of device `c`'s round `r` with engine `e`. -/
def wtOf (x : Dev nD × (Fin 3 × Fin 3)) : (Dev nD × Fin 3) × ℕ := ((pt x.2.1 x.2.2 x.1, x.2.1), x.2.2.val)

theorem wtOf_injective : Function.Injective wtOf := by
  rintro ⟨c, e, r⟩ ⟨c', e', r'⟩ h
  unfold wtOf at h
  have he : e = e' := congrArg (fun x => x.1.2) h
  have hr : r = r' := Fin.ext (congrArg (fun x => x.2) h)
  subst he hr
  have hc : pt e r c = pt e r c' := congrArg (fun x => x.1.1) h
  rw [← pt_pt e r c, hc, pt_pt]

theorem wtoks_dealt : (bigSep (slots ×ˢ Finset.range 3) fun x => (Release.writeTok EL x.1 (x.2 + 1) : sProp 𝕄))
    ⊢ bigSep Finset.univ fun c : Dev nD => holds (inp m) c wtoks := by
  have h : (Finset.univ : Finset (Dev nD × (Fin 3 × Fin 3))).map ⟨wtOf, wtOf_injective⟩ ⊆ slots ×ˢ Finset.range 3 := by
    intro x hx
    obtain ⟨y, -, rfl⟩ := Finset.mem_map.mp hx
    exact Finset.mem_product.mpr ⟨Finset.mem_univ _, Finset.mem_range.mpr y.2.2.isLt⟩
  refine Entails.trans (BI.bigSep_subset h) (Entails.of_eq ?_)
  rw [bigSep_map, bigSep_univ_prod]
  refine bigSep_congr fun c _ => ?_
  unfold wtoks
  rw [holds_of_set (inp m) c _ _ prs_nodup, ← univ_prs]
  rfl

theorem rdrs_dealt : (bigSep slots fun x => (Release.readerAt EL x 0 : sProp 𝕄)) = bigSep Finset.univ fun c : Dev nD => holds (inp m) c rdrs := by
  rw [bigSep_univ_prod]
  refine bigSep_congr fun c _ => ?_
  unfold rdrs
  rw [holds_finRange]
  rfl

theorem with_env {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k : Cd => iprop(∃ κ : ℕ, cellInv ER (Rd (inp m)) κ (cell c k)))
          ∗ (bigSep Finset.univ fun k : Cd => reached ER (cell c k) 0) ∗ holds (inp m) c poss ∗ holds (inp m) c toks ∗ recs c) : sProp 𝕄)
      ⊢ |={Set.univ}=> bigSep Finset.univ (G' m) := by
  simp only [bigSep_sep']
  rw [← bigSep_univ_prod (fun x : Dev nD × Cd => iprop(∃ κ : ℕ, cellInv ER (Rd (inp m)) κ (cell x.1 x.2))),
    ← bigSep_univ_prod (fun x : Dev nD × Cd => (reached ER (cell x.1 x.2) 0 : sProp 𝕄)), recs_all]
  iintro ⟨HI, #HR, Hat, Htok, HL⟩
  ihave HK := (BI.bigSep_exists_pi Finset.univ (fun (x : Dev nD × Cd) (κ : ℕ) => (cellInv ER (Rd (inp m)) κ (cell x.1 x.2) : sProp 𝕄))) $$ HI
  icases HK with ⟨%K, #HI⟩
  imod (Release.slots_init EL slots 3 fun x => rowsAny (F := F) (bM x.2) x.1 0 (Hn x.2 0)) $$ HL with ⟨%N, -, #HN, Hrd, Hwt⟩
  imodintro
  ihave Hrd' := (Entails.of_eq (rdrs_dealt m)) $$ Hrd
  ihave Hwt' := (wtoks_dealt m) $$ Hwt
  iapply (with_env (R := Env₀ (inp m) K N)
    (Φ := fun c => iprop(holds (inp m) c poss ∗ holds (inp m) c toks ∗ holds (inp m) c rdrs ∗ holds (inp m) c wtoks)) fun c => by
      unfold G'
      iintro ⟨#HE, H⟩
      iexists K; iexists N
      isplitr; · iexact HE
      iexact H)
  isplitr
  · unfold Env₀; simp only [bigSep_sep']
    isplitr
    · isplitr; · iexact HI
      iexact HR
    · iexact HN
  · simp only [bigSep_sep']
    isplitl [Hat]; · iexact Hat
    isplitl [Htok]; · iexact Htok
    isplitl [Hrd'] <;> iassumption

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans ((BI.fupd_mono (regroup m)).trans fupd_trans)

/-! ## The launch credit -/

/-- What a device owes at launch: every payment it is to make. -/
def O₀ (c : Dev nD) : CellTallies nD τ sig ℕ := Osum c (pays prog)

/-- The credits for a list of payments, one by one. -/
def crs (c : Dev nD) : List (Cd × Fin 2) → sProp 𝕄
  | [] => iprop(emp)
  | p :: l => iprop(cred (tallyAt (cell c p.1) p.2.val (amt p.1)) ∗ crs c l)

theorem creds_each (c : Dev nD) (l : List (Fin 8 × Cd × Fin 2)) : (Pipeline.launchCred (fun d => Osum d l) c : sProp 𝕄) ⊢ crs c (l.map Prod.snd) := by
  induction l with
  | nil => iintro -; unfold crs; iempintro
  | cons p l ih =>
    unfold Osum
    rw [Pipeline.launchCred_add]
    show _ ⊢ iprop(cred (tallyAt (cell c p.2.1) p.2.2.val (amt p.2.1)) ∗ crs c (l.map Prod.snd))
    iintro ⟨H1, H2⟩
    isplitl [H2]
    · have h := Pipeline.launchCred_tallyAt (Name := ℕ) (U := UU) (Lvl := ℕ) (Val := Elt F) (τ := τ) (loc p.2.1) (fun d => xr p.1 d) (fun d => xr p.1 d) (xr_xr p.1) (xr_xr p.1) p.2.2.val (amt p.2.1) c
      iapply h; iexact H2
    · iapply ih; iexact H1

theorem crs_perm (c : Dev nD) {l l' : List (Cd × Fin 2)} (h : l.Perm l') : crs c l ⊢ (crs c l' : sProp 𝕄) := by
  induction h with
  | nil => exact .rfl
  | cons a _ ih => unfold crs; exact sep_mono_right ih
  | swap a b l =>
    simp only [crs]
    iintro ⟨H, H', H2⟩
    isplitl [H']; · iexact H'
    isplitl [H] <;> iassumption
  | trans _ _ ih1 ih2 => exact ih1.trans ih2

/-- The payments promised to a device, but for the barrier's. -/
def later : List (Cd × Fin 2) := promised.tail

theorem promised_eq : promised = (.bar, 0) :: later := by decide +kernel
theorem later_bar : ∀ p ∈ later, p.1 ≠ .bar := by decide +kernel
theorem pays_perm : ((pays prog).map Prod.snd).Perm ((.bar, 0) :: (.bar, 0) :: (.bar, 0) :: later) :=
  List.isPerm_iff.mp (by decide +kernel)

theorem crs_crds (I : In F) (c : Dev nD) (l : List (Cd × Fin 2)) (h : ∀ p ∈ l, p.1 ≠ .bar) :
    (crs c l : sProp 𝕄) ⊢ holds I c (l.map fun x => .crd x.1 x.2) := by
  induction l with
  | nil => exact .rfl
  | cons p l ih =>
    have hp : camt p.1 = amt p.1 := by
      have := h p List.mem_cons_self
      cases hk : p.1 <;> first | rfl | exact absurd hk this
    show iprop(cred (tallyAt (cell c p.1) p.2.val (amt p.1)) ∗ crs c l) ⊢ iprop(cred (tallyAt (cell c p.1) p.2.val (camt p.1)) ∗ holds I c (l.map fun x => .crd x.1 x.2))
    rw [hp]
    exact sep_mono_right (ih fun q hq => h q (List.mem_cons_of_mem _ hq))

theorem creds_three (I : In F) (c : Dev nD) (l : List (Cd × Fin 2)) (h : ∀ p ∈ l, p.1 ≠ .bar) :
    (crs c ((.bar, 0) :: (.bar, 0) :: (.bar, 0) :: l) : sProp 𝕄) ⊢ holds I c (((.bar, 0) :: l).map fun x => .crd x.1 x.2) := by
  show iprop(cred (tallyAt (cell c .bar) 0 1) ∗ cred (tallyAt (cell c .bar) 0 1) ∗ cred (tallyAt (cell c .bar) 0 1) ∗ crs c l)
    ⊢ iprop(cred (tallyAt (cell c .bar) 0 3) ∗ holds I c (l.map fun x => .crd x.1 x.2))
  have h3 : (tallyAt (cell c .bar) 0 3 : CellTallies nD τ sig ℕ) = tallyAt (cell c .bar) 0 1 + (tallyAt (cell c .bar) 0 1 + tallyAt (cell c .bar) 0 1) := by
    rw [tallyAt_add, tallyAt_add]
  rw [h3]
  iintro ⟨H1, H2, H3, H4⟩
  isplitr [H4]
  · iapply (cred_add _ _).2
    isplitl [H1]; · iexact H1
    iapply (cred_add _ _).2
    isplitl [H2] <;> iassumption
  · iapply (crs_crds I c l h); iexact H4

theorem creds (c : Dev nD) : (Pipeline.launchCred O₀ c : sProp 𝕄) ⊢ holds (inp m) c crds := by
  unfold crds
  rw [promised_eq]
  exact (creds_each c (pays prog)).trans ((crs_perm c pays_perm).trans (creds_three (inp m) c later later_bar))

/-! ## The region's data -/

/-- What a device's body starts from beyond its staged blocks. -/
def start (c : Dev nD) : sProp 𝕄 :=
  iprop((∃ K N, Env (inp m) K N ∗ holds (inp m) c poss ∗ holds (inp m) c toks ∗ holds (inp m) c rdrs ∗ holds (inp m) c wtoks) ∗ holds (inp m) c crds)
def Φ₀ (c : Dev nD) : sProp 𝕄 := iprop(start m c ∗ holds (inp m) c bufs)
/-- And what it ends with. -/
def Φ₁ (c : Dev nD) : sProp 𝕄 := iprop(holds (inp m) c bufs ∗ holds (inp m) c zeros)

def dats (_ : Fin 1) (c : Dev nD) : Dat τ (Elt F) ℕ ℕ UU ℕ cfg0 c where
  A w := m ((cfg0.win w).arr.view.loc (c : Thread nD τ))
  after w _ := match w with
    | ⟨0, _⟩ => (inp m).x c
    | ⟨1, _⟩ => (inp m).w c
    | ⟨2, _⟩ => (inp m).s1 c
    | ⟨3, _⟩ => (inp m).s2 c
    | ⟨4, _⟩ => outB m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem before_x (c : Dev nD) (d) : (dats m 0 c).before (0 : Fin 5) t0_0 d = (inp m).x c := by
  unfold Dat.before; rw [if_pos (fetch0_0 t0_0)]; rfl
theorem before_w (c : Dev nD) (d) : (dats m 0 c).before (1 : Fin 5) t0_0 d = (inp m).w c := by
  unfold Dat.before; rw [if_pos (fetch0_1 t0_0)]; rfl
theorem before_s1 (c : Dev nD) (d) : (dats m 0 c).before (2 : Fin 5) t0_0 d = (inp m).s1 c := by
  unfold Dat.before; rw [if_pos (fetch0_2 t0_0)]; rfl
theorem before_s2 (c : Dev nD) (d) : (dats m 0 c).before (3 : Fin 5) t0_0 d = (inp m).s2 c := by
  unfold Dat.before; rw [if_pos (fetch0_3 t0_0)]; rfl

/-! ## The body obligation -/

theorem owns_arg {s : Shape} {e : EltTy} {μ : CoreSpace} (M : Memref sig .tc μ s e) (hM : M.view.set = Finset.univ) (c : Dev nD) (v : s.Idx → Elt F e) :
    (owns (Ix := ℕ) (Name := ℕ) (U := UU) (Lvl := ℕ) (c : Thread nD τ) M fullShare v : sProp 𝕄) = arg M c v := by
  unfold owns arg; rw [hM]

theorem owns_out (c : Dev nD) (v : S4096x2048.Idx → Elt F .f32) :
    (arg oM c v : sProp 𝕄) ⊢ rowsAny oM c 0 4096 := by
  unfold arg
  iintro ⟨%f, -, H⟩
  iapply (rows_any oM c 0 4096 _)
  iapply (whole_any oM c (View.set_whole _) f (by decide)); iexact H

theorem out_owns (c : Dev nD) : (rows oM c 0 4096 (Fn (inp m)) : sProp 𝕄) ⊢ arg oM c (outB m) := by
  unfold arg
  iintro H
  ihave H' := (any_whole oM c (View.set_whole _) (Fn (inp m))) $$ H
  icases H' with ⟨%f, %hf, H⟩
  iexists f
  isplitr; · ipureintro; exact funext hf
  iexact H

end Cert.KernelIdeal.AR

end
-- ==== Proof.KernelIdealLaunch.lean ====
/- The kernel's run from launch to end: the region's obligation by the plan, and the launch around it. -/
module

public import proofs.«01_k».proof.Proof.KernelIdealDeal
public import Idealize.ShloMosaic.Lib.Pipeline.CollectiveSegs
public import Idealize.ShloMosaic.Lib.Pipeline.Launch
public import Idealize.ShloMosaic.Lib.Pipeline.Kit

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

/-! ## The body obligation -/

/-- A window's staged block. -/
abbrev stg {s : Shape} {e : EltTy} {μ : CoreSpace} (M : Memref sig .tc μ s e) (c : Dev nD) (v : s.Idx → Elt F e) : sProp 𝕄 :=
  owns (Ix := ℕ) (Name := ℕ) (U := UU) (Lvl := ℕ) (c : Thread nD τ) M fullShare v

def bodyPre (c : Dev nD) : sProp 𝕄 :=
  iprop(Φ₀ m c ∗ (dats m 0 c).owesAt 0 t0_0.castSucc
    ∗ (∃ d, stg (Memref.whole cc0_stg0_0) c ((dats m 0 c).before (0 : Fin 5) t0_0 d))
    ∗ (∃ d, stg (Memref.whole cc0_stg1_0) c ((dats m 0 c).before (1 : Fin 5) t0_0 d))
    ∗ (∃ d, stg (Memref.whole cc0_stg2_0) c ((dats m 0 c).before (2 : Fin 5) t0_0 d))
    ∗ (∃ d, stg (Memref.whole cc0_stg3_0) c ((dats m 0 c).before (3 : Fin 5) t0_0 d))
    ∗ (∃ d, stg (Memref.whole cc0_stg4_0) c ((dats m 0 c).before (4 : Fin 5) t0_0 d)))

def bodyPost (c : Dev nD) : sProp 𝕄 :=
  iprop(Φ₁ m c ∗ (dats m 0 c).owesAt 0 t0_0.succ
    ∗ stg (Memref.whole cc0_stg0_0) c ((inp m).x c) ∗ stg (Memref.whole cc0_stg1_0) c ((inp m).w c)
    ∗ stg (Memref.whole cc0_stg2_0) c ((inp m).s1 c) ∗ stg (Memref.whole cc0_stg3_0) c ((inp m).s2 c)
    ∗ stg (Memref.whole cc0_stg4_0) c (outB m))

/-- What the region hands the body is what the plan starts from. -/
theorem pre_hold (c : Dev nD) : bodyPre m c ⊢ iprop(∃ K N, Hold (inp m) K N c prog) := by
  unfold bodyPre Φ₀ start
  simp only [before_x, before_w, before_s1, before_s2]
  iintro ⟨⟨⟨⟨%K, %N, #HE, Hp, Ht, Hr, Hw⟩, Hc⟩, Hb⟩, Ho, ⟨%d0, H0⟩, ⟨%d1, H1⟩, ⟨%d2, H2⟩, ⟨%d3, H3⟩, ⟨%d4, H4⟩⟩
  iexists K; iexists N
  unfold Hold
  isplitr; · iexact HE
  iexists initial
  isplitr; · ipureintro; exact run_prog
  isplitl [Ho]
  · unfold Dat.owesAt Pipeline.owesWithin ow
    icases Ho with ⟨%W, -, HO⟩
    iexists W
    iexact HO
  have ht : (holds (inp m) c begins : sProp 𝕄) ⊢ holds (inp m) c initial := by
    refine (holds_take (inp m) c begins_enough).trans ?_
    iintro ⟨H, -⟩; iexact H
  iapply ht
  unfold begins
  iapply (holds_append (inp m) c _ _).2
  isplitl [H0 H1 H2 H3 H4]
  · ihave H0' := (Entails.of_eq (owns_arg (Memref.whole cc0_stg0_0) (View.set_whole _) c ((inp m).x c))) $$ H0
    ihave H1' := (Entails.of_eq (owns_arg (Memref.whole cc0_stg1_0) (View.set_whole _) c ((inp m).w c))) $$ H1
    ihave H2' := (Entails.of_eq (owns_arg (Memref.whole cc0_stg2_0) (View.set_whole _) c ((inp m).s1 c))) $$ H2
    ihave H3' := (Entails.of_eq (owns_arg (Memref.whole cc0_stg3_0) (View.set_whole _) c ((inp m).s2 c))) $$ H3
    ihave H4' := (Entails.of_eq (owns_arg (Memref.whole cc0_stg4_0) (View.set_whole _) c ((dats m 0 c).before (4 : Fin 5) t0_0 d4))) $$ H4
    have hj : iprop(rowsAny oM c 0 4096 ∗ (arg (Memref.whole cc0_stg0_0) c ((inp m).x c) ∗ arg (Memref.whole cc0_stg1_0) c ((inp m).w c) ∗ arg (Memref.whole cc0_stg2_0) c ((inp m).s1 c) ∗ arg (Memref.whole cc0_stg3_0) c ((inp m).s2 c)) ∗ emp)
        ⊢ (holds (inp m) c [.outAny, .ins] : sProp 𝕄) := .rfl
    iapply hj
    isplitl [H4']
    · iapply (owns_out c ((dats m 0 c).before (4 : Fin 5) t0_0 d4)); iexact H4'
    isplitl [H0' H1' H2' H3']
    · isplitl [H0']; · iexact H0'
      isplitl [H1']; · iexact H1'
      isplitl [H2'] <;> iassumption
    · iempintro
  iapply (holds_append (inp m) c _ _).2
  isplitl [Hb]; · iexact Hb
  iapply (holds_append (inp m) c _ _).2
  isplitl [Hc]; · iexact Hc
  iapply (holds_append (inp m) c _ _).2
  isplitl [Hp]; · iexact Hp
  iapply (holds_append (inp m) c _ _).2
  isplitl [Ht]; · iexact Ht
  iapply (holds_append (inp m) c _ _).2
  isplitl [Hr] <;> iassumption

/-- What the plan ends with is what the region takes back. -/
theorem hold_post (K : Dev nD × Cd → ℕ) (N : Dev nD × Fin 3 → ℕ) (c : Dev nD) : Hold (inp m) K N c [] ⊢ bodyPost m c := by
  refine (hold_nil (inp m) K N c).trans ?_
  have he : ending = [.outFin, .ins] ++ (bufs ++ zeros) := rfl
  rw [he]
  have hj : (holds (inp m) c [.outFin, .ins] : sProp 𝕄) ⊢ iprop(rows oM c 0 4096 (Fn (inp m)) ∗ (arg (Memref.whole cc0_stg0_0) c ((inp m).x c) ∗ arg (Memref.whole cc0_stg1_0) c ((inp m).w c) ∗ arg (Memref.whole cc0_stg2_0) c ((inp m).s1 c) ∗ arg (Memref.whole cc0_stg3_0) c ((inp m).s2 c)) ∗ emp) := .rfl
  unfold bodyPost Φ₁
  iintro ⟨Ho, H⟩
  ihave H' := (holds_append (inp m) c _ _).1 $$ H
  icases H' with ⟨H1, H2⟩
  ihave H3 := (holds_append (inp m) c _ _).1 $$ H2
  ihave H4 := hj $$ H1
  icases H4 with ⟨Hout, ⟨Hx, Hw, Hs1, Hs2⟩, -⟩
  isplitl [H3]; · iexact H3
  isplitl [Ho]
  · unfold Dat.owesAt Pipeline.owesWithin ow
    icases Ho with ⟨%W, HO⟩
    iexists W
    isplitr; · ipureintro; exact fun _ _ => Or.inl trivial
    iexact HO
  isplitl [Hx]; · iapply (Entails.of_eq (owns_arg (Memref.whole cc0_stg0_0) (View.set_whole _) c ((inp m).x c)).symm); iexact Hx
  isplitl [Hw]; · iapply (Entails.of_eq (owns_arg (Memref.whole cc0_stg1_0) (View.set_whole _) c ((inp m).w c)).symm); iexact Hw
  isplitl [Hs1]; · iapply (Entails.of_eq (owns_arg (Memref.whole cc0_stg2_0) (View.set_whole _) c ((inp m).s1 c)).symm); iexact Hs1
  isplitl [Hs2]; · iapply (Entails.of_eq (owns_arg (Memref.whole cc0_stg3_0) (View.set_whole _) c ((inp m).s2 c)).symm); iexact Hs2
  iapply (Entails.of_eq (owns_arg (Memref.whole cc0_stg4_0) (View.set_whole _) c (outB m)).symm)
  iapply (out_owns m c); iexact Hout

set_option maxRecDepth 4000 in
theorem body_obligation (c : Dev nD) : BodyObligation (dats (F := F) m 0 c) (defs₀ (F := F)) 𝒱₀ 0 Set.univ := fun t => by
  rw [show t = t0_0 from fin_N0 t]
  rw [show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from bigSep_W0,
    show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from bigSep_W0]
  show bodyPre m c ⊢ wpc c (at_ (cc0__ar_body (F := F))) (fun _ => bodyPost m c)
  refine (pre_hold m c).trans ?_
  iintro ⟨%K, %N, H⟩
  have hw : Hold (inp m) K N c prog ⊢ wpc c (at_ (cc0__ar_body (F := F))) (fun _ => bodyPost m c) :=
    (body (inp m) K N c).trans (wp_mono _ _ _ fun _ => hold_post m K N c)
  iapply hw; iexact H

/-! ## The launch's side conditions -/

theorem share_eq (c : Dev nD) (w : Fin cfg0.W) : (dats m 0 c).share w = fullShare := by unfold Dat.share; split <;> rfl
theorem L_of_ne (g : GSem nD τ sig) (h : g.1.2 ≠ .tc) : L g = ∅ := if_neg h

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds m c) $$ Hcr
  imodintro
  unfold start G' Env₀ Env
  icases HG with ⟨%K, %N, ⟨H1, H2⟩, Hg⟩
  isplitl
  · isplitr [Hc]
    · iexists K; iexists N
      isplitr [Hg]
      · isplitl [H1]; · iexact H1
        isplitl [H2] <;> iassumption
      · iexact Hg
    · iexact Hc
  · iempintro

theorem buf_in (c : Dev nD) : (Pipeline.scopedRest cfg0.spec c : sProp 𝕄) ⊢ holds (inp m) c bufs := by
  rw [scopedRest0_eq]
  have hj : iprop(rowsAny (Memref.whole cc0_scratch0 : Memref sig .tc .vmem (Sh 704) .f32) c 0 704 ∗ rowsAny (Memref.whole cc0_scratch1 : Memref sig .tc .vmem (Sh 672) .f32) c 0 672
      ∗ rowsAny (Memref.whole cc0_scratch2 : Memref sig .tc .vmem (Sh 672) .f32) c 0 672 ∗ emp) ⊢ (holds (inp m) c bufs : sProp 𝕄) := .rfl
  iintro ⟨⟨%f0, H0⟩, ⟨%f1, H1⟩, ⟨%f2, H2⟩⟩
  iapply hj
  isplitl [H0]
  · iapply (rows_any _ c 0 704 _)
    iapply (whole_any (Memref.whole cc0_scratch0 : Memref sig .tc .vmem (Sh 704) .f32) c (View.set_whole _) f0 (by decide)); iexact H0
  isplitl [H1]
  · iapply (rows_any _ c 0 672 _)
    iapply (whole_any (Memref.whole cc0_scratch1 : Memref sig .tc .vmem (Sh 672) .f32) c (View.set_whole _) f1 (by decide)); iexact H1
  isplitl [H2]
  · iapply (rows_any _ c 0 672 _)
    iapply (whole_any (Memref.whole cc0_scratch2 : Memref sig .tc .vmem (Sh 672) .f32) c (View.set_whole _) f2 (by decide)); iexact H2
  iempintro

/-- Rows at some contents, all of them, are the whole buffer at some contents. -/
theorem any_buf {h : ℕ} (M : Memref sig .tc .vmem (Sh h) .f32) (hM : M.view.set = Finset.univ) (c : Dev nD) :
    (rowsAny M c 0 h : sProp 𝕄) ⊢ iprop(∃ f : Buf (Elt F) (M.view.loc (c : Thread nD τ)), (M.view.loc (c : Thread nD τ) ↦{fullShare} f)) := by
  unfold rowsAny
  iintro ⟨%A, H⟩
  ihave H' := (any_whole M c hM A) $$ H
  icases H' with ⟨%f, -, H⟩
  iexists f; iexact H

theorem buf_out (c : Dev nD) : (holds (inp m) c bufs : sProp 𝕄) ⊢ Pipeline.scopedRest cfg0.spec c := by
  rw [scopedRest0_eq]
  have hj : (holds (inp m) c bufs : sProp 𝕄) ⊢ iprop(rowsAny (Memref.whole cc0_scratch0 : Memref sig .tc .vmem (Sh 704) .f32) c 0 704 ∗ rowsAny (Memref.whole cc0_scratch1 : Memref sig .tc .vmem (Sh 672) .f32) c 0 672
      ∗ rowsAny (Memref.whole cc0_scratch2 : Memref sig .tc .vmem (Sh 672) .f32) c 0 672 ∗ emp) := .rfl
  refine hj.trans ?_
  iintro ⟨H0, H1, H2, -⟩
  isplitl [H0]; · iapply (any_buf (Memref.whole cc0_scratch0 : Memref sig .tc .vmem (Sh 704) .f32) (View.set_whole _) c); iexact H0
  isplitl [H1]; · iapply (any_buf (Memref.whole cc0_scratch1 : Memref sig .tc .vmem (Sh 672) .f32) (View.set_whole _) c); iexact H1
  iapply (any_buf (Memref.whole cc0_scratch2 : Memref sig .tc .vmem (Sh 672) .f32) (View.set_whole _) c); iexact H2

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (buf_in m c); iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl]
  have hz : (holds (inp m) c zeros : sProp 𝕄) ⊢ iprop(unscopedSems0 c ∗ Pipeline.ownSems0 osem c) :=
    (Entails.of_eq (holds_allCd (inp m) c .zero)).trans (Entails.of_eq (sems_eq c))
  unfold Φ₁
  iintro ⟨Hb, Hz⟩
  ihave Hz' := hz $$ Hz
  icases Hz' with ⟨H1, H2⟩
  isplitl [H1]; · iexact H1
  isplitl [H2]; · iexact H2
  iapply (buf_out m c); iexact Hb

theorem stage_before : ∀ p ∈ pays prog, 0 < lvl p.2.1 p.2.2 := by decide +kernel

theorem mayWait_stage (c : Dev nD) (q : DmaSem sig) (hq : kd (.dma q) = none) (O : CellTallies nD τ sig ℕ) (hO : O = O₀ c ∨ O = 0) :
    (levAts L lv : sProp 𝕄) ⊢ MayWait (c : Thread nD τ) (.dma q) 0 O := by
  rcases hO with rfl | rfl
  · exact MayOwe.of_cut (L := L) (lev := lv) 0
      (fun p hp => by rw [Finset.mem_singleton.mp hp]; exact mem_L c _ 0)
      (fun g v hg => by obtain ⟨p, -, rfl, rfl⟩ := Osum_pos c hg; exact mem_L _ _ _)
      (fun p hp => by rw [Finset.mem_singleton.mp hp]; unfold lv; rw [hq])
      (fun g v hg => by obtain ⟨p, hp, rfl, rfl⟩ := Osum_pos c hg; rw [lv_cell]; exact stage_before p hp)
  · rw [MayWait_zero]; iintro -; iempintro

theorem waits (c : Dev nD) : (levAts L lv : sProp 𝕄) ⊢ Pipeline.cellsWaits cfgs (dats m) 0 0 c :=
  Pipeline.cellsWaits_intro cfgs (dats m) 0 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- From any memory with every counter zero, every fair run ends, with each array as the region leaves it and every
    counter zero again. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_pair_emb embR _ _) $$ HX
      imod (fund_ring m) $$ HX' with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.AR

end
-- ==== Proof.KernelIdealRun.lean ====
/- The run of the kernel read at its argument and result arrays. -/
module

public import proofs.«01_k».proof.Proof.KernelIdealLaunch

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The arrays after the run -/

/-- A window that covers its array reads the array itself. -/
theorem read_out (f : S4096x2048.Idx → Elt F .f32) : (win0_4.blk (0 : Fin 1)).view.read (Elt F) f = f :=
  Memref.read_access_unit_zero (Elt F) main_v1 (funext fun a => by fin_cases a <;> decide) (fun a => by fin_cases a <;> decide) f
theorem read_x (f : S4096x512.Idx → Elt F .i8) : (win0_0.blk (0 : Fin 1)).view.read (Elt F) f = f :=
  Memref.read_access_unit_zero (Elt F) main_arg0 (funext fun a => by fin_cases a <;> decide) (fun a => by fin_cases a <;> decide) f
theorem read_w (f : S512x2048.Idx → Elt F .i8) : (win0_1.blk (0 : Fin 1)).view.read (Elt F) f = f :=
  Memref.read_access_unit_zero (Elt F) main_arg1 (funext fun a => by fin_cases a <;> decide) (fun a => by fin_cases a <;> decide) f
theorem read_s1 (f : S1.Idx → Elt F .f32) : (win0_2.blk (0 : Fin 1)).view.read (Elt F) f = f :=
  Memref.read_access_unit_zero (Elt F) main_arg2 (funext fun a => by fin_cases a <;> decide) (fun a => by fin_cases a <;> decide) f
theorem read_s2 (f : S1.Idx → Elt F .f32) : (win0_3.blk (0 : Fin 1)).view.read (Elt F) f = f :=
  Memref.read_access_unit_zero (Elt F) main_arg3 (funext fun a => by fin_cases a <;> decide) (fun a => by fin_cases a <;> decide) f

/-- The one write-back leaves the result block in the result array. -/
theorem out_after (c : Dev nD) : (dats m 0 c).arrAt (4 : Fin 5) cfg0.N = outB m := by
  have h := (dats m 0 c).arrAt_succ (4 : Fin 5) (0 : Fin 1)
  rw [show (cfg0.win (4 : Fin 5)).flush (0 : Fin 1) = true from flush0_4 (0 : Fin 1), if_pos rfl] at h
  have h' := congrArg ((win0_4.blk (0 : Fin 1)).view.read (Elt F)) h
  exact ((read_out _).symm.trans h').trans (View.read_write_univ _ _)

/-- What a run leaves on a device: the arguments as they were, the result array holding the result, and no counter raised. -/
theorem run_ends : θ_run defs (onTc (τ := τ) (main (F := F))) ⟨m, fun _ => 0, ρ⟩
    (fun r => (∀ c : Dev nD, r.2.mem ((c : Thread nD τ).loc main_v1) = outB m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨(h.1 c (4 : Fin 5)).trans (out_after m c),
    (h.1 c (0 : Fin 5)).trans ((dats m 0 c).arrAt_in (0 : Fin 5) rfl _),
    (h.1 c (1 : Fin 5)).trans ((dats m 0 c).arrAt_in (1 : Fin 5) rfl _),
    (h.1 c (2 : Fin 5)).trans ((dats m 0 c).arrAt_in (2 : Fin 5) rfl _),
    (h.1 c (3 : Fin 5)).trans ((dats m 0 c).arrAt_in (3 : Fin 5) rfl _)⟩, h.2⟩) (run_main m ρ)

end Cert.KernelIdeal.AR

end
-- ==== Proof.KernelIdealValue.lean ====
/- The kernel's result over the extended reals: the whole product, scaled. -/
module

public import proofs.«01_k».proof.Proof.KernelIdealRun
public import Idealize.ShloMosaic.Lib.MatmulPlain
public import Idealize.ShloMosaic.Lib.StackMember
public import Idealize.ShloMosaic.Lib.ValueIdx

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open scoped BigOperators

/-! ## Sums of integers, among the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor goes into a sum of products of reals. -/
theorem mul_sum_coe {ι κ : Type*} [Fintype ι] [Fintype κ] (s : ℝ) (f g : ι → κ → ℝ) :
    ∑ d, (s : EReal) * ∑ k, (f d k : EReal) * (g d k : EReal) = (s : EReal) * ∑ d, ∑ k, (f d k : EReal) * (g d k : EReal) := by
  simp only [← EReal.coe_mul, ← coe_sum]
  rw [Finset.mul_sum]

/-- The extended real whose absolute value is below infinity is a real. -/
theorem real_of_abs_lt {x : EReal} (h : max x (-x) < ⊤) : ∃ r : ℝ, (r : EReal) = x := by
  induction x using EReal.rec with
  | bot => simp at h
  | coe r => exact ⟨r, rfl⟩
  | top => simp at h

/-! ## The eight partial sums -/

/-- The devices whose blocks a device's sum after three rounds adds, in the order it adds them. -/
def tree (e : Fin 3) (c : Dev nD) : List (Dev nD) :=
  let x0 := xr (mk e 0)
  let x1 := xr (mk e 1)
  let x2 := xr (mk e 2)
  [c, x0 c, x1 c, x0 (x1 c), x2 c, x0 (x2 c), x1 (x2 c), x0 (x1 (x2 c))]

theorem tree_perm : ∀ (e : Fin 3) (c : Dev nD), (tree e c).Perm (List.finRange 8) := by decide +kernel

theorem sum_tree (f : Dev nD → EReal) (e : Fin 3) (c : Dev nD) : ((tree e c).map f).sum = ∑ d : Dev nD, f d := by
  rw [((tree_perm e c).map f).sum_eq]
  exact (Fin.sum_univ_def f).symm

/-- After three rounds a device holds the sum of the blocks of all eight. -/
theorem Ac3 (I : In Ideal) (c : Dev nD) (row col : ℕ) : Ac I 3 c row col = ∑ d : Dev nD, (Ac I 0 d row col : EReal) := by
  rw [← sum_tree (fun d => Ac I 0 d row col) (eng row) c]
  simp only [tree, List.map_cons, List.map_nil, List.sum_cons, List.sum_nil, add_zero]
  show ((_ + _) + (_ + _) + ((_ + _) + (_ + _)) : EReal) = _
  simp only [add_assoc]
  rfl

/-! ## One device's block -/

/-- The integer an element of an argument is. -/
def num (b : BitVec 8) : ℝ := (b.toInt : ℝ)

theorem pay4_apply (s : Ideal .f32) (w : S512x2048.Idx → BitVec 8) (x : S704x512.Idx → BitVec 8) (r : Fin 704) (c : Fin 2048) :
    k0_pay4 (F := Ideal) s (k0_pay2 w) x (ix2 r c) = (s * ∑ k : Fin 512, (num (x (ix2 r k)) : EReal) * (num (w (ix2 k c)) : EReal) : EReal) := by
  unfold k0_pay4 k0_pay2
  simp only [matmul, shapeCast_self]
  rw [mulf_apply, broadcast_apply]
  rw [show dot_S704x512_S512x2048_S704x2048_1_0_0_1_n_n = DotDims.plain 704 512 2048 from rfl, Ideal.matmul_plain_apply]
  rw [constant_apply, Ideal.ofBits_zero_f32, zero_add]
  rfl

theorem pay5_apply (s : Ideal .f32) (w : S512x2048.Idx → BitVec 8) (x : S672x512.Idx → BitVec 8) (r : Fin 672) (c : Fin 2048) :
    k0_pay5 (F := Ideal) s (k0_pay2 w) x (ix2 r c) = (s * ∑ k : Fin 512, (num (x (ix2 r k)) : EReal) * (num (w (ix2 k c)) : EReal) : EReal) := by
  unfold k0_pay5 k0_pay2
  simp only [matmul, shapeCast_self]
  rw [mulf_apply, broadcast_apply]
  rw [show dot_S672x512_S512x2048_S672x2048_1_0_0_1_n_n = DotDims.plain 672 512 2048 from rfl, Ideal.matmul_plain_apply]
  rw [constant_apply, Ideal.ofBits_zero_f32, zero_add]
  rfl

theorem ix_eq {n : ℕ} (hn : 0 < n) (r : Fin n) (c : Fin 2048) : ix hn r.val c.val = ix2 r c := ix_self hn (ix2 r c)

/-- A block at a row it covers, where its payload is a row of `x` times a column of the weights. -/
theorem blkAt_val {n : ℕ} (hn : 0 < n) (pay : ((⟨2, ![n, 512]⟩ : Shape).Idx → BitVec 8) → (Sh n).Idx → EReal) (s : EReal) (w : S512x2048.Idx → BitVec 8)
    (hp : ∀ x (r : Fin n) (c : Fin 2048), pay x (ix2 r c) = s * ∑ k : Fin 512, (num (x (ix2 r k)) : EReal) * (num (w (ix2 k c)) : EReal))
    (a : ℕ) (inb) (x : S4096x512.Idx → BitVec 8) (row : Fin 4096) (col : Fin 2048) (h : a ≤ row.val) (h' : row.val < a + n) :
    blkAt (F := Ideal) hn pay a inb x row.val col.val = s * ∑ k : Fin 512, (num (x (ix2 row k)) : EReal) * (num (w (ix2 k col)) : EReal) := by
  unfold blkAt
  rw [ix_eq hn ⟨row.val - a, by omega⟩ col, hp]
  refine congrArg (s * ·) (Finset.sum_congr rfl fun k _ => ?_)
  have e : (Rect.unit (s := S4096x512) ![a, 0] (⟨2, ![n, 512]⟩ : Shape).size inb).emb (ix2 (⟨row.val - a, by omega⟩ : Fin n) k) = ix2 row k := by
    funext b
    apply Fin.ext
    match b with
    | ⟨0, _⟩ => show a + 1 * (row.val - a) = row.val; omega
    | ⟨1, _⟩ => show 0 + 1 * k.val = k.val; omega
  rw [e]

/-- One device's block at any row and column. -/
theorem Ac0 (I : In Ideal) (d : Dev nD) (row : Fin 4096) (col : Fin 2048) :
    Ac I 0 d row.val col.val
      = ((I.s1 d z1 * I.s2 d z1 : EReal) * ∑ k : Fin 512, (num (I.x d (ix2 row k)) : EReal) * (num (I.w d (ix2 k col)) : EReal) : EReal) := by
  have h4 := fun x (r : Fin 704) (c : Fin 2048) => pay4_apply (sc I d) (I.w d) x r c
  have h5 := fun x (r : Fin 672) (c : Fin 2048) => pay5_apply (sc I d) (I.w d) x r c
  have hr := row.isLt
  show blk I d (eng row.val) (hf row.val) row.val col.val = _
  by_cases h0 : row.val < 704
  · rw [show eng row.val = 0 by unfold eng; rw [if_pos (by omega)], show hf row.val = 0 by unfold hf eng; rw [if_pos (by omega : row.val < 1408), if_pos (by show row.val < 0 + 704; omega)]]
    exact blkAt_val (by decide) _ _ _ h4 0 _ _ row col (by omega) (by omega)
  by_cases h1 : row.val < 1408
  · rw [show eng row.val = 0 by unfold eng; rw [if_pos h1], show hf row.val = 1 by unfold hf eng; rw [if_pos h1, if_neg (by show ¬ row.val < 0 + 704; omega)]]
    exact blkAt_val (by decide) _ _ _ h4 704 _ _ row col (by omega) (by omega)
  by_cases h2 : row.val < 2080
  · rw [show eng row.val = 1 by unfold eng; rw [if_neg h1, if_pos (by omega)], show hf row.val = 0 by unfold hf eng; rw [if_neg h1, if_pos (by omega : row.val < 2752), if_pos (by show row.val < 1408 + 672; omega)]]
    exact blkAt_val (by decide) _ _ _ h5 1408 _ _ row col (by omega) (by omega)
  by_cases h3 : row.val < 2752
  · rw [show eng row.val = 1 by unfold eng; rw [if_neg h1, if_pos h3], show hf row.val = 1 by unfold hf eng; rw [if_neg h1, if_pos h3, if_neg (by show ¬ row.val < 1408 + 672; omega)]]
    exact blkAt_val (by decide) _ _ _ h5 2080 _ _ row col (by omega) (by omega)
  by_cases h4' : row.val < 3424
  · rw [show eng row.val = 2 by unfold eng; rw [if_neg h1, if_neg h3], show hf row.val = 0 by unfold hf eng; rw [if_neg h1, if_neg h3, if_pos (by show row.val < 2752 + 672; omega)]]
    exact blkAt_val (by decide) _ _ _ h5 2752 _ _ row col (by omega) (by omega)
  · rw [show eng row.val = 2 by unfold eng; rw [if_neg h1, if_neg h3], show hf row.val = 1 by unfold hf eng; rw [if_neg h1, if_neg h3, if_neg (by show ¬ row.val < 2752 + 672; omega)]]
    exact blkAt_val (by decide) _ _ _ h5 3424 _ _ row col (by omega) (by omega)

/-! ## The whole product -/

/-- Eight sums of 512 terms are one of 4096. -/
theorem sum_blocks (f : Fin 4096 → EReal) (g : Dev nD → Fin 512 → EReal)
    (h : ∀ (d : Dev nD) (k : Fin 512), g d k = f ⟨d.val * 512 + k.val, by have := d.isLt; have : d.val < 8 := this; omega⟩) :
    ∑ d, ∑ k, g d k = ∑ j, f j := by
  rw [← Fintype.sum_prod_type', ← Equiv.sum_comp (finProdFinEquiv (m := 8) (n := 512)) f]
  refine Finset.sum_congr rfl fun p _ => (h p.1 p.2).trans (congrArg f (Fin.ext ?_))
  show p.1.val * 512 + p.2.val = p.2.val + 512 * p.1.val
  omega

/-- The result, where every device holds the block of `X` and `W` that is its own and the same two finite scales. -/
theorem Fn_val (I : In Ideal) (X : (⟨2, ![4096, 4096]⟩ : Shape).Idx → BitVec 8) (W : S4096x2048.Idx → BitVec 8) (a b : ℝ)
    (hx : ∀ d, I.x d = Layout.block ⟨2, ![4096, 512]⟩ ⟨2, ![4096, 4096]⟩ 1 8 d X)
    (hw : ∀ d, I.w d = Layout.block ⟨2, ![512, 2048]⟩ ⟨2, ![4096, 2048]⟩ 0 8 d W)
    (h1 : ∀ d, I.s1 d z1 = (a : EReal)) (h2 : ∀ d, I.s2 d z1 = (b : EReal)) (row : Fin 4096) (col : Fin 2048) :
    Fn I row.val col.val = (∑ j : Fin 4096, (num (X (ix2 row j)) : EReal) * (num (W (ix2 j col)) : EReal)) * ((a : EReal) * (b : EReal)) := by
  unfold Fn
  rw [Ac3]
  simp only [Ac0, h1, h2, ← EReal.coe_mul a b]
  rw [mul_sum_coe, mul_comm, sum_blocks (fun j : Fin 4096 => (num (X (ix2 row j)) : EReal) * (num (W (ix2 j col)) : EReal))]
  intro d k
  have ex : I.x d (ix2 row k) = X (ix2 row ⟨d.val * 512 + k.val, by have := d.isLt; have : d.val < 8 := this; omega⟩) := by
    rw [hx, Layout.block_apply]
    refine congrArg X (funext fun b => Fin.ext ?_)
    match b with
    | ⟨0, _⟩ => rfl
    | ⟨1, _⟩ => rfl
  have ew : I.w d (ix2 k col) = W (ix2 ⟨d.val * 512 + k.val, by have := d.isLt; have : d.val < 8 := this; omega⟩ col) := by
    rw [hw, Layout.block_apply]
    refine congrArg W (funext fun b => Fin.ext ?_)
    match b with
    | ⟨0, _⟩ => rfl
    | ⟨1, _⟩ => rfl
  rw [ex, ew]

end Cert.KernelIdeal.AR

end
-- ==== Proof.Agree.lean ====
/- The claim that the kernel's result is the reference's, over the extended reals, where both scales are finite. -/
module

public import proofs.«01_k».proof.Defs
public import proofs.«01_k».proof.Proof.KernelIdealValue
public import proofs.«01_k».proof.Proof.Gen.ReferenceIdeal.Run
public import proofs.«01_k».proof.Proof.Gen.Pre_finite_scales_KernelIdeal

@[expose] public section

noncomputable section

namespace Cert.Proof

open Idealize.ShloMosaic Idealize.ShloMosaic.TcCoe Idealize.SL.Sem Idealize.ShloMosaic.ValueIdx
open Cert.KernelIdeal.AR
open scoped BigOperators

/-! ## What the precondition says -/

theorem inf_word : Ideal.ofBits .f32 0x7F800000#32 = (⊤ : EReal) := by
  simp [Ideal.ofBits, Ideal.ieee]

theorem abs_lt_of_cmp {x : EReal} (h : Ideal.cmp .olt (max x (-x)) (Ideal.ofBits .f32 0x7F800000#32) = 1#1) : max x (-x) < ⊤ := by
  rw [inf_word] at h
  by_contra hn
  simp [Ideal.cmp, hn] at h

theorem both_one {p q : BitVec 1} (h : p &&& q = 1#1) : p = 1#1 ∧ q = 1#1 := by
  revert p q; decide

/-- Where the precondition holds, the two scales on a device are reals. -/
theorem scales_real (x0 : Cert.Pre_finite_scales_KernelIdeal.S4096x512.Idx → BitVec 8) (x1 : Cert.Pre_finite_scales_KernelIdeal.S512x2048.Idx → BitVec 8)
    (s1 s2 : (⟨1, ![1]⟩ : Shape).Idx → EReal)
    (h : Cert.Pre_finite_scales_KernelIdeal.fn (F := Ideal) x0 x1 s1 s2 = fun _ => 1#1) (i : (⟨1, ![1]⟩ : Shape).Idx) :
    (∃ a : ℝ, (a : EReal) = s1 i) ∧ ∃ b : ℝ, (b : EReal) = s2 i := by
  have h' := both_one (congrFun h i)
  exact ⟨real_of_abs_lt (abs_lt_of_cmp h'.1), real_of_abs_lt (abs_lt_of_cmp h'.2)⟩

/-! ## The reference's result -/

section
open Cert.ReferenceIdeal Cert.ReferenceIdeal.Gen Idealize.ShloMosaic.StackMember

/-- The reference's result as the term its run ends with. -/
def refVal (X : S4096x4096.Idx → BitVec 8) (W : S4096x2048.Idx → BitVec 8) (s1 s2 : S1.Idx → EReal) : S4096x2048.Idx → EReal :=
  mulf (F := Ideal) (φ := .f32) (Host.dotGeneral (F := Ideal) dot_S4096x4096_S4096x2048_S4096x2048_1_0_0_1_n_n none
      (sitofp .f32 (extsi 32 X natLt_8_32)) (sitofp .f32 (extsi 32 W natLt_8_32)))
    (broadcastInDim S4096x2048 ![0, 1] bcast_S1x1_S4096x2048_0_1 (broadcastInDim S1x1 ![1] bcast_S1_S1x1_1 (mulf (F := Ideal) (φ := .f32) s1 s2)))

theorem num_ext (b : BitVec 8) : (((b.signExtend 32).toInt : ℝ) : EReal) = (num b : EReal) := by
  rw [BitVec.toInt_signExtend_of_le (by decide)]; rfl

theorem refVal_apply (X : S4096x4096.Idx → BitVec 8) (W : S4096x2048.Idx → BitVec 8) (s1 s2 : S1.Idx → EReal) (row : Fin 4096) (col : Fin 2048) :
    refVal X W s1 s2 (ix2 row col)
      = (∑ j : Fin 4096, (num (X (ix2 row j)) : EReal) * (num (W (ix2 j col)) : EReal)) * (s1 z1 * s2 z1) := by
  have hd := dotGeneral_plain_apply (m := 4096) (n := 2048) (k := 4096) (φ₁ := .f32) (φ₂ := .f32) none (sitofp .f32 (extsi 32 X natLt_8_32)) (sitofp .f32 (extsi 32 W natLt_8_32)) row col
  have hd' := hd.trans (Finset.sum_congr rfl fun j _ => congrArg₂ (· * ·) (num_ext (X (ix2 row j))) (num_ext (W (ix2 j col))))
  have hs : ∀ j : S1.Idx, j = z1 := fun j => funext fun a =>
    match a with
    | ⟨0, _⟩ => Subsingleton.elim (α := Fin 1) _ _
  refine (congrArg₂ (· * ·) hd' ?_ : (_ : EReal) * _ = _)
  exact congrArg₂ (· * ·) (congrArg s1 (hs _)) (congrArg s2 (hs _))
end

/-! ## The claim -/

theorem algebraic : Cert.algebraic_KernelIdeal_ReferenceIdeal_pre_finite_scales_KernelIdeal := by
  intro m g m' g' hpre hag
  obtain ⟨⟨a, ha⟩, b, hb⟩ := scales_real _ _ _ _ (hpre 0) z1
  refine ⟨refVal (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨(h.1 c).1.trans ?_, (h.1 c).2⟩) (run_ends m g)
    funext i
    obtain ⟨row, col, rfl⟩ : ∃ (row : Fin 4096) (col : Fin 2048), i = ix2 row col := ⟨i 0, i 1, eq_ix2 i⟩
    refine Eq.trans ?_ (refVal_apply _ _ _ _ row col).symm
    have e2 : ∀ d : Dev Cert.KernelIdeal.nD, (inp m).s1 d z1 = (a : EReal) := fun d =>
      (congrFun (read_s1 _) z1).trans ((congrFun ((hag d).2.2.1.trans (hag 0).2.2.1.symm) z1).trans ha.symm)
    have e3 : ∀ d : Dev Cert.KernelIdeal.nD, (inp m).s2 d z1 = (b : EReal) := fun d =>
      (congrFun (read_s2 _) z1).trans ((congrFun ((hag d).2.2.2.trans (hag 0).2.2.2.symm) z1).trans hb.symm)
    have ha' := ha.trans (congrFun (hag 0).2.2.1 z1)
    have hb' := hb.trans (congrFun (hag 0).2.2.2 z1)
    rw [← ha', ← hb']
    exact Fn_val (inp m) _ _ a b (fun d => (read_x _).trans (hag d).1) (fun d => (read_w _).trans (hag d).2.1) e2 e3 row col
  · exact (θ_run Cert.ReferenceIdeal.defs _ _).mono (fun r h => h 0) (Cert.ReferenceIdeal.Value.run (F := Ideal) m' g')

end Cert.Proof

end
-- ==== Proof.lean ====
/- The proof of the claims: the frames of the kernel, of its exact counterpart and of the reference, and that the
   counterpart's result is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scales_KernelIdeal
public import proofs.«01_k».proof.Proof.Gen.Pre_finite_scales_ReferenceIdeal
public import proofs.«01_k».proof.Proof.KernelRun
public import proofs.«01_k».proof.Proof.KernelIdealRun
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

theorem kernel_frame : Cert.quiescent_Kernel := fun m g _ =>
  (θ_run Cert.Kernel.defs _ _).mono (fun _ h => ⟨fun c => (h.1 c).2, h.2⟩) (Cert.Kernel.AR.run_ends (F := Bits) m g)

theorem ideal_frame : Cert.quiescent_KernelIdeal := fun m g _ =>
  (θ_run Cert.KernelIdeal.defs _ _).mono (fun _ h => ⟨fun c => (h.1 c).2, h.2⟩) (Cert.KernelIdeal.AR.run_ends (F := Ideal) m g)

theorem ref_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts,
    Cert.Pre_finite_scales_KernelIdeal.Gen.facts, Cert.Pre_finite_scales_ReferenceIdeal.Gen.facts,
    kernel_frame, ideal_frame, fun m g _ => ideal_frame m g trivial,
    ref_frame, fun m g _ => ref_frame m g trivial, trivial, algebraic⟩

end Cert.Proof

end
